-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x200x128 : Shape := ⟨3, ![4096, 200, 128]⟩
abbrev S104857600 : Shape := ⟨1, ![104857600]⟩
abbrev S32000x128 : Shape := ⟨2, ![32000, 128]⟩
abbrev S20x128 : Shape := ⟨2, ![20, 128]⟩
abbrev S_ : Shape := ⟨0, ![]⟩
abbrev S16 : Shape := ⟨1, ![16]⟩
abbrev S1x16 : Shape := ⟨2, ![1, 16]⟩
abbrev S1x128 : Shape := ⟨2, ![1, 128]⟩
abbrev S128 : Shape := ⟨1, ![128]⟩
abbrev S65536 : Shape := ⟨1, ![65536]⟩
abbrev S4096x200x5 : Shape := ⟨3, ![4096, 200, 5]⟩

abbrev nBuf : Table → Nat
  | .hbm => 4
  | .local .scVector .vmem => 3
  | _ => 0

abbrev bufTy : (tb : Table) → Fin (nBuf tb) → BufTy
  | .hbm, ⟨0, _⟩ => ⟨S4096x200x128, .f32⟩
  | .hbm, ⟨1, _⟩ => ⟨S104857600, .f32⟩
  | .hbm, ⟨2, _⟩ => ⟨S32000x128, .f32⟩
  | .hbm, ⟨3, _⟩ => ⟨S4096x200x5, .f32⟩
  | .local .scVector .vmem, ⟨0, _⟩ => ⟨S20x128, .i32⟩
  | .local .scVector .vmem, ⟨1, _⟩ => ⟨S20x128, .f32⟩
  | .local .scVector .vmem, ⟨2, _⟩ => ⟨S20x128, .f32⟩
  | _, _ => ⟨S4096x200x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c160_i32 : BitVec 32 := 160#32
  let v3 : BitVec 32 := Scalar.addi c0_i32_0 c160_i32
  let c1_i32 : BitVec 32 := 1#32
  ⟨c0_i32_0, v3, c1_i32⟩
def k0_off1 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c3_i32_201 : BitVec 32 := 3#32
  let v277 : BitVec 32 := Scalar.shrui arg9 c3_i32_201
  let v283 : Index := Scalar.indexCast v277
  let c7_i32_202 : BitVec 32 := 7#32
  let v278 : BitVec 32 := Scalar.andi arg9 c7_i32_202
  let c16_i32_203 : BitVec 32 := 16#32
  let v279 : BitVec 32 := Scalar.muli v278 c16_i32_203
  let v284 : Index := Scalar.indexCast v279
  ![v283.toNat, v284.toNat]
def k0_off2 (i : grid0.Coords) (c0_i32_2 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v4 : BitVec 32 := Scalar.addi v2 c0_i32_2
  let c128_i32 : BitVec 32 := 128#32
  let v5 : BitVec 32 := Scalar.muli v4 c128_i32
  ![v5.toNat]
@[reducible] def k0_t2_loop : Scf.Loop 32 :=
  let c0_i32_188 : BitVec 32 := 0#32
  let c25_i32 : BitVec 32 := 25#32
  let v248 : BitVec 32 := Scalar.addi c0_i32_188 c25_i32
  let c1_i32_189 : BitVec 32 := 1#32
  ⟨c0_i32_188, v248, c1_i32_189⟩
def k0_off3 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_191 : BitVec 32 := 2#32
  let c0_i32_188 : BitVec 32 := 0#32
  let c1_i32_189 : BitVec 32 := 1#32
  let arg9 : BitVec 32 := Scf.iv c0_i32_188 c1_i32_189 k0_t2
  let v249 : BitVec 32 := Scalar.muli c2_i32_191 arg9
  let c512_i32_194 : BitVec 32 := 512#32
  let v252 : BitVec 32 := Scalar.muli v249 c512_i32_194
  let v253 : BitVec 32 := Scalar.addi v2 v252
  let c128_i32_195 : BitVec 32 := 128#32
  let v254 : BitVec 32 := Scalar.muli v253 c128_i32_195
  ![v254.toNat]
def k0_off4 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1000_i32 : BitVec 32 := 1000#32
  let v375 : BitVec 32 := Scalar.muli v1 c1000_i32
  let c2_i32_191 : BitVec 32 := 2#32
  let c0_i32_188 : BitVec 32 := 0#32
  let c1_i32_189 : BitVec 32 := 1#32
  let arg9 : BitVec 32 := Scf.iv c0_i32_188 c1_i32_189 k0_t2
  let v249 : BitVec 32 := Scalar.muli c2_i32_191 arg9
  let c20_i32 : BitVec 32 := 20#32
  let v376 : BitVec 32 := Scalar.muli v249 c20_i32
  let v377 : BitVec 32 := Scalar.addi v375 v376
  let c0_i32_405_r0 : BitVec 32 := 0#32
  ![v377.toNat, 0]
def k0_cond1 (k0_t2 : Fin k0_t2_loop.trips) : BitVec 1 :=
  let c2_i32_191 : BitVec 32 := 2#32
  let c0_i32_188 : BitVec 32 := 0#32
  let c1_i32_189 : BitVec 32 := 1#32
  let arg9 : BitVec 32 := Scf.iv c0_i32_188 c1_i32_189 k0_t2
  let v249 : BitVec 32 := Scalar.muli c2_i32_191 arg9
  let c2_i32_296 : BitVec 32 := 2#32
  let v378 : BitVec 32 := Scalar.addi v249 c2_i32_296
  let c50_i32 : BitVec 32 := 50#32
  let v379 : BitVec 1 := Scalar.cmpi .slt v378 c50_i32
  let v380 : BitVec 32 := Scalar.extui v379
  let c0_i32_297 : BitVec 32 := 0#32
  let v381 : BitVec 1 := Scalar.cmpi .ne v380 c0_i32_297
  v381

def k0_off5 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_191 : BitVec 32 := 2#32
  let c0_i32_188 : BitVec 32 := 0#32
  let c1_i32_189 : BitVec 32 := 1#32
  let arg9 : BitVec 32 := Scf.iv c0_i32_188 c1_i32_189 k0_t2
  let v249 : BitVec 32 := Scalar.muli c2_i32_191 arg9
  let c2_i32_405 : BitVec 32 := 2#32
  let v512 : BitVec 32 := Scalar.addi v249 c2_i32_405
  let c512_i32_406 : BitVec 32 := 512#32
  let v513 : BitVec 32 := Scalar.muli v512 c512_i32_406
  let v514 : BitVec 32 := Scalar.addi v2 v513
  let c128_i32_407 : BitVec 32 := 128#32
  let v515 : BitVec 32 := Scalar.muli v514 c128_i32_407
  ![v515.toNat]
def k0_off6 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_192 : BitVec 32 := 2#32
  let c0_i32_188 : BitVec 32 := 0#32
  let c1_i32_189 : BitVec 32 := 1#32
  let arg9 : BitVec 32 := Scf.iv c0_i32_188 c1_i32_189 k0_t2
  let v250 : BitVec 32 := Scalar.muli c2_i32_192 arg9
  let c1_i32_193 : BitVec 32 := 1#32
  let v251 : BitVec 32 := Scalar.addi v250 c1_i32_193
  let c512_i32_298 : BitVec 32 := 512#32
  let v382 : BitVec 32 := Scalar.muli v251 c512_i32_298
  let v383 : BitVec 32 := Scalar.addi v2 v382
  let c128_i32_299 : BitVec 32 := 128#32
  let v384 : BitVec 32 := Scalar.muli v383 c128_i32_299
  ![v384.toNat]
def k0_off7 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1000_i32_400 : BitVec 32 := 1000#32
  let v505 : BitVec 32 := Scalar.muli v1 c1000_i32_400
  let c2_i32_192 : BitVec 32 := 2#32
  let c0_i32_188 : BitVec 32 := 0#32
  let c1_i32_189 : BitVec 32 := 1#32
  let arg9 : BitVec 32 := Scf.iv c0_i32_188 c1_i32_189 k0_t2
  let v250 : BitVec 32 := Scalar.muli c2_i32_192 arg9
  let c1_i32_193 : BitVec 32 := 1#32
  let v251 : BitVec 32 := Scalar.addi v250 c1_i32_193
  let c20_i32_401 : BitVec 32 := 20#32
  let v506 : BitVec 32 := Scalar.muli v251 c20_i32_401
  let v507 : BitVec 32 := Scalar.addi v505 v506
  let c0_i32_405_r1 : BitVec 32 := 0#32
  ![v507.toNat, 0]
def k0_cond2 (k0_t2 : Fin k0_t2_loop.trips) : BitVec 1 :=
  let c2_i32_192 : BitVec 32 := 2#32
  let c0_i32_188 : BitVec 32 := 0#32
  let c1_i32_189 : BitVec 32 := 1#32
  let arg9 : BitVec 32 := Scf.iv c0_i32_188 c1_i32_189 k0_t2
  let v250 : BitVec 32 := Scalar.muli c2_i32_192 arg9
  let c1_i32_193 : BitVec 32 := 1#32
  let v251 : BitVec 32 := Scalar.addi v250 c1_i32_193
  let c2_i32_402 : BitVec 32 := 2#32
  let v508 : BitVec 32 := Scalar.addi v251 c2_i32_402
  let c50_i32_403 : BitVec 32 := 50#32
  let v509 : BitVec 1 := Scalar.cmpi .slt v508 c50_i32_403
  let v510 : BitVec 32 := Scalar.extui v509
  let c0_i32_404 : BitVec 32 := 0#32
  let v511 : BitVec 1 := Scalar.cmpi .ne v510 c0_i32_404
  v511

def k0_off8 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_192 : BitVec 32 := 2#32
  let c0_i32_188 : BitVec 32 := 0#32
  let c1_i32_189 : BitVec 32 := 1#32
  let arg9 : BitVec 32 := Scf.iv c0_i32_188 c1_i32_189 k0_t2
  let v250 : BitVec 32 := Scalar.muli c2_i32_192 arg9
  let c1_i32_193 : BitVec 32 := 1#32
  let v251 : BitVec 32 := Scalar.addi v250 c1_i32_193
  let c2_i32_405 : BitVec 32 := 2#32
  let v512 : BitVec 32 := Scalar.addi v251 c2_i32_405
  let c512_i32_406 : BitVec 32 := 512#32
  let v513 : BitVec 32 := Scalar.muli v512 c512_i32_406
  let v514 : BitVec 32 := Scalar.addi v2 v513
  let c128_i32_407 : BitVec 32 := 128#32
  let v515 : BitVec 32 := Scalar.muli v514 c128_i32_407
  ![v515.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200x128 : Shape := ⟨3, ![4096, 200, 128]⟩
abbrev S5 : Shape := ⟨1, ![5]⟩
abbrev S_ : Shape := ⟨0, ![]⟩
abbrev S5x1 : Shape := ⟨2, ![5, 1]⟩
abbrev S1 : Shape := ⟨1, ![1]⟩
abbrev S1x1 : Shape := ⟨2, ![1, 1]⟩
abbrev S4096x200x5 : Shape := ⟨3, ![4096, 200, 5]⟩

abbrev nBuf : Space → Nat
  | .hbm => 25
  | .vmem => 0
  | .smem => 0
  | _ => 0

abbrev bufTy : (tb : Table) → Fin (tcTables nBuf tb) → BufTy
  | .hbm, ⟨0, _⟩ => ⟨S4096x200x128, .f32⟩
  | .hbm, ⟨1, _⟩ => ⟨S5, .i32⟩
  | .hbm, ⟨2, _⟩ => ⟨S_, .i32⟩
  | .hbm, ⟨3, _⟩ => ⟨S5, .i32⟩
  | .hbm, ⟨4, _⟩ => ⟨S5, .i1⟩
  | .hbm, ⟨5, _⟩ => ⟨S_, .i32⟩
  | .hbm, ⟨6, _⟩ => ⟨S5, .i32⟩
  | .hbm, ⟨7, _⟩ => ⟨S5, .i32⟩
  | .hbm, ⟨8, _⟩ => ⟨S5, .i32⟩
  | .hbm, ⟨9, _⟩ => ⟨S5x1, .i32⟩
  | .hbm, ⟨10, _⟩ => ⟨S1, .i32⟩
  | .hbm, ⟨11, _⟩ => ⟨S_, .i32⟩
  | .hbm, ⟨12, _⟩ => ⟨S5x1, .i32⟩
  | .hbm, ⟨13, _⟩ => ⟨S5x1, .i1⟩
  | .hbm, ⟨14, _⟩ => ⟨S1x1, .i32⟩
  | .hbm, ⟨15, _⟩ => ⟨S5x1, .i32⟩
  | .hbm, ⟨16, _⟩ => ⟨S5x1, .i1⟩
  | .hbm, ⟨17, _⟩ => ⟨S5x1, .i1⟩
  | .hbm, ⟨18, _⟩ => ⟨S_, .i1⟩
  | .hbm, ⟨19, _⟩ => ⟨S5, .i1⟩
  | .hbm, ⟨20, _⟩ => ⟨S4096x200x5, .f32⟩
  | .hbm, ⟨21, _⟩ => ⟨S4096x200x5, .i1⟩
  | .hbm, ⟨22, _⟩ => ⟨S_, .f32⟩
  | .hbm, ⟨23, _⟩ => ⟨S4096x200x5, .f32⟩
  | .hbm, ⟨24, _⟩ => ⟨S4096x200x5, .f32⟩
  | _, _ => ⟨S4096x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.StreamBatch.lean ====
/-
  Several indirect gathers started on ONE DMA semaphore before any is waited for. The streams' rows together are one
  counted batch (`Transfers.Batch`): the batch is allocated for all rows of all streams, each stream is issued against
  the next block of the batch's issue rights (`wp_gatherBatch`), and the waits are the batch's own.
-/
module

public import Idealize.ShloMosaic.Lib.Batch
public import Idealize.ShloMosaic.Lib.SparseCore.Stream
public import Idealize.ShloMosaic.Lib.Tactic

@[expose] public section

noncomputable section

namespace Cert.Proof.StreamBatch

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA

section Block

variable {nD : Nat} {τ : Topo} {sig : RefSig} {Ix : Type} [DecidableEq Ix] {Val : EltTy → Type} {Name : Type} [DecidableEq Name]
variable {U : Type} [URA U] {Lvl : Type}

/-- What is pending from `k` on is the block of the next `o` and what is pending from `k + o` on. -/
theorem bigSep_pending_block {n : ℕ} (Φ : Fin n → sProp (MT nD τ sig Ix Val Name U Lvl)) (k o : ℕ) (h : k + o ≤ n) :
    bigSep (Transfers.pending k) Φ
      = iprop((bigSep Finset.univ fun j : Fin o => Φ ⟨k + j.val, by omega⟩) ∗ bigSep (Transfers.pending (k + o)) Φ) := by
  classical
  let e : Fin o ↪ Fin n := ⟨fun j => ⟨k + j.val, by omega⟩, fun a b hab => Fin.ext (by have := congrArg Fin.val hab; simp at this; omega)⟩
  have he : ∀ j, (e j).val = k + j.val := fun _ => rfl
  have hm : ∀ (k' : ℕ) (t : Fin n), t ∈ Transfers.pending k' ↔ k' ≤ t.val := fun k' t => by
    rw [Transfers.pending, Finset.mem_filter]
    exact ⟨fun h => h.2, fun h => ⟨Finset.mem_univ _, h⟩⟩
  have hu : Transfers.pending (n := n) k = (Finset.univ.map e) ∪ Transfers.pending (k + o) := by
    ext t
    rw [Finset.mem_union, Finset.mem_map, hm, hm]
    constructor
    · intro ht
      by_cases hlt : t.val < k + o
      · exact .inl ⟨⟨t.val - k, by omega⟩, Finset.mem_univ _, Fin.ext (by rw [he]; dsimp only; omega)⟩
      · exact .inr (by omega)
    · rintro (⟨j, -, rfl⟩ | ht)
      · rw [he]; omega
      · omega
  have hd : Disjoint (Finset.univ.map e) (Transfers.pending (n := n) (k + o)) := by
    rw [Finset.disjoint_left]
    rintro t ht ht'
    obtain ⟨j, -, rfl⟩ := Finset.mem_map.mp ht
    rw [hm, he] at ht'
    have := j.isLt
    omega
  rw [hu, BI.bigSep_union hd, BI.bigSep_map]
  rfl

end Block

section Issue

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- An indirect gather at the head of a program, issued into a batch of which the first `j₀` rows are issued: holding,
    per entry, its row of the destination, its element of the offset list and a share of the source, the tile issues
    the stream and continues with the batch advanced by the stream's rows. Each row's delivery — the row written with
    the source's row its entry names, the list's element and the source's share back — is what the batch states for
    it (`hD`). -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qo : PosShare TreeShare} {qk : Fin (s.size hg.axis') → PosShare TreeShare}
    {fs : Buf (Elt F) (src.view.loc c)} {fd : Buf (Elt F) (dst.view.loc c)} {fo : Buf (Elt F) (offs.view.loc c)}
    {n : ℕ} {D : Fin n → sProp 𝕄} {j₀ u : ℕ} (ι : Ix) (N : ℕ)
    (hN : ∀ j, (dst.slice (s.rowRect hg.axis' j) (s.stride_rowRect hg.axis' j)).view.dmaCredit = N)
    (hj : j₀ + s.size hg.axis' ≤ n) (hu : u ≤ j₀ * N)
    (hin : ∀ x, (offs.view.read (Elt F) fo x).toNat < s₀.size hg.axis)
    (hD : ∀ j : Fin (s.size hg.axis'),
      iprop(((dst.view.loc c ↦[(dst.view.slice (s.rowRect hg.axis' j)).set]{fullShare}
              ((dst.view.slice (s.rowRect hg.axis' j)).write (Elt F) fd
                (fun i => src.view.read (Elt F) fs (hg.rowIdx (SparseCore.rows (offs.view.read (Elt F) fo) hn hin j) i)) Finset.univ))
            ∗ (offs.view.loc c ↦[{offs.view.emb (si.rowMajor.symm (j.cast hn.symm))}]{qo} fo))
          ∗ (src.view.loc c ↦[src.view.set]{qk j} fs))
        ⊢ D ⟨j₀ + j.val, by omega⟩) :
    iprop((bigSep Finset.univ fun j : Fin (s.size hg.axis') =>
          iprop(((dst.view.loc c ↦[(dst.view.slice (s.rowRect hg.axis' j)).set]{fullShare} fd)
              ∗ (offs.view.loc c ↦[{offs.view.emb (si.rowMajor.symm (j.cast hn.symm))}]{qo} fo))
            ∗ (src.view.loc c ↦[src.view.set]{qk j} fs)))
        ∗ Transfers.Batch EC c (.dma sem) ι N D j₀ u)
      ⊢ iprop((Transfers.Batch EC c (.dma sem) ι N D (j₀ + s.size hg.axis') u -∗ wp frame (wpE defs 𝒱 c bd) Set.univ (k ⟨⟩) Q)
          -∗ wp frame (wpE defs 𝒱 c bd) Set.univ (SparseCore.enqueueIndirectGather hp src dst hg offs hn sem hsrc he hsp hr >>= k) Q) := by
  rw [SparseCore.enqueueIndirectGather_bind]
  let S : Stream nD τ sig (Elt F) :=
    Stream.issued c offs.view hn sem (fun j w => (SparseCore.rowOf (s₀.size hg.axis) w).map (SparseCore.gatherRow c src dst hg sem hsrc he hsp hr j)) 0
  let r : Fin (s.size hg.axis') → Fin (s₀.size hg.axis) := SparseCore.rows (offs.view.read (Elt F) fo) hn hin
  let rd : Fin (s.size hg.axis') → RowDma τ sig (Elt F) c.2 sem := fun j => SparseCore.gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (SparseCore.rowOf (s₀.size hg.axis) (offs.view.read (Elt F) fo (S.entry j))).map _ = _
    rw [SparseCore.rowOf_of_lt (hin _)]; rfl
  have hsum : ∑ j, (rd j).dst.view.dmaCredit = s.size hg.axis' * N := SparseCore.sum_rowCredit_eq _ hN rfl
  unfold Transfers.Batch
  iintro ⟨Hres, ⟨%γ, %γ₀, %κ, #Hinv, HI, H0, Hcred⟩⟩ Hk
  ihave HI' := (Entails.of_eq (bigSep_pending_block (fun t => count EC (γ t) 0) j₀ (s.size hg.axis') hj)) $$ HI
  icases HI' with ⟨Hγ, HI⟩
  iapply (wp_enqueueIndirectDma 𝒱 c bd Set.univ (qo := qo) (fo := fo) (rd := rd) ι (s.size hg.axis' * N) hA hrd hsum) $$ [Hres Hγ]
  · have hrow : ∀ j : Fin (s.size hg.axis'), iprop(inv κ (Transfers.batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{qk j} fs)) ∗ count EC (γ ⟨j₀ + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists qk j, fs, iprop((dst.view.loc c ↦[(dst.view.slice (s.rowRect hg.axis' j)).set]{fullShare}
        ((dst.view.slice (s.rowRect hg.axis' j)).write (Elt F) fd
                (fun i => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcu := Transfers.batch_creditUpdate EC (g := (c, SemLoc.dma sem)) (N := N) (γ := γ) (γ₀ := γ₀) (ι := κ)
          ⟨j₀ + j.val, by omega⟩ (hD j)
        have hamt : (rd j).dst.view.amount (.dma sem) = N := by rw [View.amount_dma]; exact hN j
        rw [hamt]
        iapply hcu
        isplitr; · iexact Hinv
        iexact Hγj
    unfold Stream.res
    ihave H3 := Transfers.bigSep_sep_in _ _ _ $$ [Hres Hγ]; · isplitl [Hres] <;> iassumption
    iapply (Transfers.bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [show (j₀ + s.size hg.axis') * N - u = (j₀ * N - u) + s.size hg.axis' * N by rw [Nat.add_mul]; omega, ← tallyAt_add]
    icombine Hcred Hcred' as H
    iexact H

end Issue

end Cert.Proof.StreamBatch

end
-- ==== Proof.Text.lean ====
/-
  The kernel's straight-line stretches, named. A chunk's gathers are the twenty starts of `fire` one after another, a
  chunk's waits the twenty of `drain`; the printed body is these (`trip_eq`, `body_eq`), by unfolding.
-/
module

public import proofs.«01_k».proof.Defs
public import proofs.«01_k».proof.Proof.Gen.KernelIdeal
public import proofs.«01_k».proof.Proof.Gen.KernelIdeal.Skeleton

@[expose] public section

noncomputable section

namespace Cert.Proof.Text

open Cert.KernelIdeal Cert.KernelIdeal.Gen
open Idealize.ShloMosaic Idealize.SL.Sem

variable {F : FTy → Type}

/-- The processor that runs grid point `i`. -/
abbrev procOf (i : grid0.Coords) : Proc τ := .scVector ((i 0).castLE hcore0) ((i 1).castLE hsub0)

/-- Programs of grid point `i`'s tile. -/
abbrev Code (F : FTy → Type) (i : grid0.Coords) : Type → Type 1 := Prog (TpuEff nD τ sig (Elt F) Λ₀ (procOf i))

theorem row_inb (s : Fin 20) : ∀ a, (![s.val, 0] : Fin 2 → Nat) a + S1x128.size a ≤ S20x128.size a := by
  revert s; decide

/-- Row `s` of a 20 × 128 buffer, as a list of 128. -/
abbrev rowOf {e : EltTy} (v : Memref sig .scVector .vmem S20x128 e) (s : Fin 20) : Memref sig .scVector .vmem S128 e :=
  (v.slice (Rect.unit (s := S20x128) ![s.val, 0] S1x128.size (row_inb s)) (fun _ => rfl)).squeeze S128 squeezes_S1x128_S128

/-- The 65536 words of the source from `off` on, as the body slices them. -/
abbrev winOf (v : Memref sig .scVector .hbm S104857600 .f32) (off : Fin 1 → Nat) (h : ∀ a, off a + S65536.size a ≤ S104857600.size a) :
    Memref sig .scVector .hbm S65536 .f32 :=
  (v.slice (Rect.unit (s := S104857600) off S65536.size h) (fun _ => rfl)).slice (Rect.unit (s := S65536) ![0] S65536.size inb_S65536_S65536_0) (fun _ => rfl)

/-- Start the gathers of the rows `l`. -/
def fire (i : grid0.Coords) (src : Memref sig .scVector .hbm S65536 .f32) (offs : Memref sig .scVector .vmem S20x128 .i32)
    (dst : Memref sig .scVector .vmem S20x128 .f32) (sem : DmaSems sig S_) : List (Fin 20) → Code F i PUnit
  | [] => pure ⟨⟩
  | s :: l => SparseCore.enqueueIndirectGather rfl src (rowOf dst s) gathers_S65536_S128 (rowOf offs s) rfl sem.sem (View.wordExact_bits rfl) rfl (Or.inl rfl)
      >>= fun _ => fire i src offs dst sem l

/-- Wait for the gathers of the rows `l`. -/
def drain (i : grid0.Coords) (src : Memref sig .scVector .hbm S65536 .f32)
    (dst : Memref sig .scVector .vmem S20x128 .f32) (sem : DmaSems sig S_) : List (Fin 20) → Code F i PUnit
  | [] => pure ⟨⟩
  | s :: l => SparseCore.waitIndirectGather sem.sem src (rowOf dst s) (View.wordExact_bits rfl) ((View.wordExact_bits rfl).reshape _ _)
      >>= fun _ => drain i src dst sem l

/-- Copy a whole buffer to a block of the result, and wait for the copy. -/
def copyOut (i : grid0.Coords) (src : Memref sig .scVector .vmem S20x128 .f32) (hsrc : src.IsWhole) (dst : Memref sig .scVector .hbm S20x128 .f32)
    (hdst : dst.view.WordExact) (sem : DmaSems sig S_) : Code F i PUnit :=
  Prog.lift (.enqueueDma src (.here dst) (.dma sem.sem) hsrc.wordExact hdst ⟨Or.inl rfl, trivial⟩)
    >>= fun _ => Prog.lift (.waitDma2 sem.sem src dst hsrc.wordExact hdst)

/-- The twenty rows of a chunk. -/
abbrev rows20 : List (Fin 20) := [0, 1, 2, 3, 4, 5, 6, 7, 8, 9, 10, 11, 12, 13, 14, 15, 16, 17, 18, 19]

variable [FloatOps F]
variable (i : grid0.Coords) (arg2 : Memref sig .scVector .hbm S104857600 .f32) (harg2 : arg2.IsWhole) (arg3 : Memref sig .scVector .hbm S32000x128 .f32) (harg3 : arg3.IsWhole)
  (arg4 : Memref sig .scVector .vmem S20x128 .i32) (harg4 : arg4.IsWhole) (arg5 : Memref sig .scVector .vmem S20x128 .f32) (harg5 : arg5.IsWhole)
  (arg6 : Memref sig .scVector .vmem S20x128 .f32) (harg6 : arg6.IsWhole) (arg7 arg8 r0 r1 : DmaSems sig S_)

/-- The block of the result chunk `2 t` goes to, and the one chunk `2 t + 1` goes to. -/
abbrev out0 (t : Fin k0_t2_loop.trips) : Memref sig .scVector .hbm S20x128 .f32 :=
  arg3.slice (Rect.unit (k0_off4 i t) S20x128.size (k0_off4_inb i t)) (fun _ => rfl)
abbrev out1 (t : Fin k0_t2_loop.trips) : Memref sig .scVector .hbm S20x128 .f32 :=
  arg3.slice (Rect.unit (k0_off7 i t) S20x128.size (k0_off7_inb i t)) (fun _ => rfl)

/-- A trip of the chunk loop: wait for a chunk, copy it out, start the chunk two on if there is one; the same for the
    other buffer. -/
def trip (t : Fin k0_t2_loop.trips) : Code F i PUnit :=
  drain i (winOf arg2 (k0_off3 i t) (k0_off3_inb i t)) arg5 arg7 rows20 >>= fun _ =>
  copyOut i arg5 harg5 (out0 i arg3 t) (View.wordExact_bits rfl) r0 >>= fun _ =>
  (if h : k0_cond1 t = 1#1 then fire i (winOf arg2 (k0_off5 i t) (k0_off5_inb i t h)) arg4 arg5 arg7 rows20 else pure ⟨⟩) >>= fun _ =>
  drain i (winOf arg2 (k0_off6 i t) (k0_off6_inb i t)) arg6 arg8 rows20 >>= fun _ =>
  copyOut i arg6 harg6 (out1 i arg3 t) (View.wordExact_bits rfl) r1 >>= fun _ =>
  (if h : k0_cond2 t = 1#1 then fire i (winOf arg2 (k0_off8 i t) (k0_off8_inb i t h)) arg4 arg6 arg8 rows20 else pure ⟨⟩)

set_option maxRecDepth 65536 in
theorem part13_eq (v1 v2 v249 v251 : BitVec 32) (t : Fin k0_t2_loop.trips) :
    k0_part13 (F := F) i arg2 harg2 arg3 harg3 arg4 harg4 arg5 harg5 arg6 harg6 arg7 arg8 r0 r1 v1 v2 t v249 v251
      = (drain i (winOf arg2 (k0_off3 i t) (k0_off3_inb i t)) arg5 arg7 [19] >>= fun _ =>
        copyOut i arg5 harg5 (out0 i arg3 t) (View.wordExact_bits rfl) r0 >>= fun _ =>
        (if h : k0_cond1 t = 1#1 then fire i (winOf arg2 (k0_off5 i t) (k0_off5_inb i t h)) arg4 arg5 arg7 rows20 else pure ⟨⟩) >>= fun _ =>
        drain i (winOf arg2 (k0_off6 i t) (k0_off6_inb i t)) arg6 arg8 [0]) := by
  rw [k0_part13_eq_skeleton]; unfold k0_part13_skel
  by_cases h : k0_cond1 t = 1#1
  · simp only [dif_pos h]; rfl
  · simp only [dif_neg h]; rfl

set_option maxRecDepth 65536 in
/-- The printed trip is `trip`. -/
theorem trip_eq (v1 v2 : BitVec 32) (t : Fin k0_t2_loop.trips) :
    k0_t2_body (F := F) i arg2 harg2 arg3 harg3 arg4 harg4 arg5 harg5 arg6 harg6 arg7 arg8 r0 r1 v1 v2 t ⟨⟩
      = trip i arg2 arg3 arg4 arg5 harg5 arg6 harg6 arg7 arg8 r0 r1 t := by
  unfold k0_t2_body trip
  simp only [part13_eq]
  by_cases h : k0_cond2 t = 1#1 <;> by_cases h' : k0_cond1 t = 1#1
  · simp only [dif_pos h, dif_pos h']; rfl
  · simp only [dif_pos h, dif_neg h']; rfl
  · simp only [dif_neg h, dif_pos h']; rfl
  · simp only [dif_neg h, dif_neg h']; rfl

set_option maxRecDepth 65536 in
/-- The printed body: fill the index list, start the first two chunks, run the trips. -/
theorem body_eq :
    cc0__sc_body (F := F) i arg2 harg2 arg3 harg3 arg4 harg4 arg5 harg5 arg6 harg6 arg7 arg8 r0 r1
      = (Scf.Loop.for k0_t1_loop k0_t1_ok ⟨⟩ (k0_t1_body i arg2 harg2 arg3 harg3 arg4 harg4 arg5 harg5 arg6 harg6 arg7 arg8 r0 r1) >>= fun _ =>
        fire i (winOf arg2 (k0_off2 i 0#32) (k0_off2_inb i 0)) arg4 arg5 arg7 rows20 >>= fun _ =>
        fire i (winOf arg2 (k0_off2 i 512#32) (k0_off2_inb i 1)) arg4 arg6 arg8 rows20 >>= fun _ =>
        Scf.Loop.for k0_t2_loop k0_t2_ok ⟨⟩ (fun t _ => trip i arg2 arg3 arg4 arg5 harg5 arg6 harg6 arg7 arg8 r0 r1 t) >>= fun _ => pure ⟨⟩) := by
  have ht : ∀ v1 v2 : BitVec 32, k0_t2_body (F := F) i arg2 harg2 arg3 harg3 arg4 harg4 arg5 harg5 arg6 harg6 arg7 arg8 r0 r1 v1 v2
      = fun t _ => trip i arg2 arg3 arg4 arg5 harg5 arg6 harg6 arg7 arg8 r0 r1 t := fun v1 v2 => by
    funext t _; exact trip_eq ..
  rw [cc0__sc_body_eq_skeleton]; unfold cc0__sc_body_skel
  rw [k0_part18_eq_skeleton]; unfold k0_part18_skel
  simp only [ht, bind_assoc, pure_bind]
  rfl

end Cert.Proof.Text

end
-- ==== Proof.Chunk.lean ====
/-
  A chunk in flight: twenty streams of 128 rows on one DMA semaphore, as one counted batch of 2560 rows. `wp_start`
  issues a chunk, `wp_finish` waits for it and hands back the filled buffer.
-/
module

public import proofs.«01_k».proof.Proof.StreamBatch
public import proofs.«01_k».proof.Proof.Text
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

noncomputable section

namespace Cert.Proof.Chunk

open Cert.KernelIdeal Cert.KernelIdeal.Gen Cert.Proof.Text Cert.Proof.StreamBatch

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UU : Type := UH × Counters

local notation "𝕄" => MT nD τ sig (HIx 1) (Elt F) ℕ UU ℕ

/-- The tile of grid point `i` on device `d`. -/
abbrev thr (d : Dev nD) (i : grid0.Coords) : Thread nD τ := (d, procOf i)

/-! ## The 2560 places of a buffer, in row-major order -/

/-- Place `t` of a 20 × 128 buffer. -/
def place (t : Fin 2560) : S20x128.Idx := fun a => match a with
  | 0 => ⟨t.val / 128, by have := t.isLt; show t.val / 128 < 20; omega⟩
  | 1 => ⟨t.val % 128, by show t.val % 128 < 128; omega⟩

theorem place_zero (t : Fin 2560) : (place t 0).val = t.val / 128 := rfl
theorem place_one (t : Fin 2560) : (place t 1).val = t.val % 128 := rfl

theorem place_bijective : Function.Bijective place := by
  constructor
  · intro a b h
    have h0 := congrArg (fun x : S20x128.Idx => (x 0).val) h
    have h1 := congrArg (fun x : S20x128.Idx => (x 1).val) h
    simp only [place_zero, place_one] at h0 h1
    exact Fin.ext (by omega)
  · intro x
    have h0 : (x 0).val < 20 := (x 0).isLt
    have h1 : (x 1).val < 128 := (x 1).isLt
    refine ⟨⟨128 * (x 0).val + (x 1).val, by omega⟩, funext fun a => ?_⟩
    match a with
    | 0 => exact Fin.ext (by show (128 * (x 0).val + (x 1).val) / 128 = _; omega)
    | 1 => exact Fin.ext (by show (128 * (x 0).val + (x 1).val) % 128 = _; omega)

/-- Place `128 s + l` is lane `l` of row `s`. -/
theorem rowOf_emb {e : EltTy} (v : Memref sig .scVector .vmem S20x128 e) (s : Fin 20) (x : S128.Idx) (h : 128 * s.val + (x 0).val < 2560) :
    (rowOf v s).view.emb x = v.view.emb (place ⟨128 * s.val + (x 0).val, h⟩) := by
  show v.view.emb ((Rect.unit (s := S20x128) ![s.val, 0] S1x128.size (row_inb s)).emb (Shape.reshapeEquiv _ x)) = _
  congr 1
  have hx : (x 0).val < 128 := (x 0).isLt
  have hr : Shape.reshapeEquiv (s := S1x128) squeezes_S1x128_S128.numel_eq x = (fun a => match a with | 0 => ⟨0, by decide⟩ | 1 => ⟨(x 0).val, hx⟩ : S1x128.Idx) := by
    apply Shape.reshapeEquiv_eq_of_rowMajor
    rw [Shape.rowMajor_val_two, Shape.rowMajor_val_one]
    show 0 * _ + (x 0).val = (x 0).val
    omega
  rw [hr]
  funext a
  match a with
  | 0 => exact Fin.ext (by show s.val + 1 * 0 = (128 * s.val + (x 0).val) / 128; omega)
  | 1 => exact Fin.ext (by show 0 + 1 * (x 0).val = (128 * s.val + (x 0).val) % 128; omega)

/-- Lane `j` of a list of 128. -/
def lane (j : Fin 128) : S128.Idx := fun a => match a with | 0 => j

theorem lane_zero (x : S128.Idx) : x = lane (x 0) := by
  funext a; match a with | 0 => rfl

theorem rowRect_emb (j : Fin 128) (y : (S128.rowShape gathers_S65536_S128.axis').Idx) :
    (S128.rowRect gathers_S65536_S128.axis' j).emb y = lane j := by
  have h := Shape.rowRect_emb_axis (s := S128) gathers_S65536_S128.axis' j y
  rw [lane_zero ((S128.rowRect gathers_S65536_S128.axis' j).emb y)]
  exact congrArg lane h

/-- One row of a 128-list is one element. -/
theorem row_set {e : EltTy} (v : Memref sig .scVector .vmem S128 e) (j : Fin 128) :
    (v.view.slice (S128.rowRect gathers_S65536_S128.axis' j)).set = {v.view.emb (lane j)} := by
  ext z
  rw [Finset.mem_singleton, View.set, Finset.mem_map]
  constructor
  · rintro ⟨y, -, rfl⟩
    exact congrArg v.view.emb (rowRect_emb j y)
  · rintro rfl
    have y : (S128.rowShape gathers_S65536_S128.axis').Idx := fun a => ⟨0, by revert a; decide⟩
    exact ⟨y, Finset.mem_univ _, congrArg v.view.emb (rowRect_emb j y)⟩

theorem lane_symm (j : Fin 128) : (S128.rowMajor.symm (j.cast rfl) : S128.Idx) = lane j := by
  rw [Equiv.symm_apply_eq]
  apply Fin.ext
  rw [Shape.rowMajor_val_one]
  rfl

/-! ## What a chunk's batch states -/

section Batch

variable (d : Dev nD) (i : grid0.Coords)
variable (src : Memref sig .scVector .hbm S65536 .f32) (offs : Memref sig .scVector .vmem S20x128 .i32) (dst : Memref sig .scVector .vmem S20x128 .f32)

/-- The source word a list entry names. -/
def srcAt (fs : Buf (Elt F) (src.view.loc (thr d i))) (w : BitVec 32) : Elt F .f32 :=
  if h : w.toNat < 65536 then src.view.read (Elt F) fs (fun a => match a with | 0 => ⟨w.toNat, h⟩)
  else src.view.read (Elt F) fs (fun a => match a with | 0 => ⟨0, by decide⟩)

/-- The buffer a finished chunk leaves: every place the source word its list entry names. -/
def filled (fs : Buf (Elt F) (src.view.loc (thr d i))) (fo : Buf (Elt F) (offs.view.loc (thr d i))) (fd : Buf (Elt F) (dst.view.loc (thr d i))) :
    Buf (Elt F) (dst.view.loc (thr d i)) :=
  dst.view.write (Elt F) fd (fun x => srcAt d i src fs (offs.view.read (Elt F) fo x)) Finset.univ

/-- One row of a chunk: its place of the destination at `f`, its list entry, its piece of the source's share. -/
def cell (qo q : PosShare TreeShare) (fs : Buf (Elt F) (src.view.loc (thr d i))) (fo : Buf (Elt F) (offs.view.loc (thr d i)))
    (f : Buf (Elt F) (dst.view.loc (thr d i))) (t : Fin 2560) : sProp 𝕄 :=
  iprop(((dst.view.loc (thr d i) ↦[{dst.view.emb (place t)}]{fullShare} f)
      ∗ (offs.view.loc (thr d i) ↦[{offs.view.emb (place t)}]{qo} fo))
    ∗ (src.view.loc (thr d i) ↦[src.view.set]{pieceOf q 2560 (by decide) t} fs))

instance cell_storable (qo q : PosShare TreeShare) (fs : Buf (Elt F) (src.view.loc (thr d i))) (fo : Buf (Elt F) (offs.view.loc (thr d i)))
    (f : Buf (Elt F) (dst.view.loc (thr d i))) (t : Fin 2560) : Storable (upEmb : UEmb _ 𝕄) (cell d i src offs dst qo q fs fo f t) := by
  unfold cell; infer_instance

/-- The rows together are the destination, the list and the source's share. -/
theorem cells_eq (qo q : PosShare TreeShare) (fs : Buf (Elt F) (src.view.loc (thr d i))) (fo : Buf (Elt F) (offs.view.loc (thr d i)))
    (f : Buf (Elt F) (dst.view.loc (thr d i))) :
    (bigSep Finset.univ (cell d i src offs dst qo q fs fo f) : sProp 𝕄)
      = iprop(((dst.view.loc (thr d i) ↦[dst.view.set]{fullShare} f) ∗ (offs.view.loc (thr d i) ↦[offs.view.set]{qo} fo))
          ∗ (src.view.loc (thr d i) ↦[src.view.set]{q} fs)) := by
  rw [pointsTo_entries (c := thr d i) dst.view place place_bijective, pointsTo_entries (c := thr d i) offs.view place place_bijective,
    pointsTo_piecesOf _ _ (o := 2560) (by decide) q]
  rw [← bigSep_sep', ← bigSep_sep']
  rfl

theorem read_rowOf {e : EltTy} (v : Memref sig .scVector .vmem S20x128 e) (s : Fin 20) (f : Buf (Elt F) (v.view.loc (thr d i))) (x : S128.Idx)
    (h : 128 * s.val + (x 0).val < 2560) :
    (rowOf v s).view.read (Elt F) f x = v.view.read (Elt F) f (place ⟨128 * s.val + (x 0).val, h⟩) := by
  rw [View.read_apply, View.read_apply, rowOf_emb v s x h]

/-- A row written by its stream is, at its one place, the filled buffer. -/
theorem row_filled (s : Fin 20) (j : Fin 128) (h : 128 * s.val + j.val < 2560) (fs : Buf (Elt F) (src.view.loc (thr d i))) (fo : Buf (Elt F) (offs.view.loc (thr d i)))
    (fd : Buf (Elt F) (dst.view.loc (thr d i)))
    (hin : ∀ x, ((rowOf offs s).view.read (Elt F) fo x).toNat < S65536.size gathers_S65536_S128.axis) (hn : S128.numel = S128.size gathers_S65536_S128.axis') :
    ((rowOf dst s).view.slice (S128.rowRect gathers_S65536_S128.axis' j)).write (Elt F) fd
        (fun y => src.view.read (Elt F) fs (gathers_S65536_S128.rowIdx (SparseCore.rows ((rowOf offs s).view.read (Elt F) fo) hn hin j) y)) Finset.univ
        ((rowOf dst s).view.emb (lane j))
      = filled d i src offs dst fs fo fd ((rowOf dst s).view.emb (lane j)) := by
  have y : (S128.rowRect gathers_S65536_S128.axis' j).shape.Idx := fun a => ⟨0, by revert a; show ∀ a, 0 < (S128.rowShape gathers_S65536_S128.axis').size a; decide⟩
  have e1 : (rowOf dst s).view.emb (lane j) = ((rowOf dst s).view.slice (S128.rowRect gathers_S65536_S128.axis' j)).emb y :=
    congrArg (rowOf dst s).view.emb (rowRect_emb j y).symm
  have e2 : (rowOf dst s).view.emb (lane j) = dst.view.emb (place ⟨128 * s.val + j.val, h⟩) := rowOf_emb dst s (lane j) h
  unfold filled
  rw [e1, View.write_emb_of_mem _ _ (Finset.mem_univ y), ← e1, e2, View.write_emb_of_mem _ _ (Finset.mem_univ _)]
  have e3 : (rowOf offs s).view.read (Elt F) fo (lane j) = offs.view.read (Elt F) fo (place ⟨128 * s.val + j.val, h⟩) := read_rowOf d i offs s fo (lane j) h
  have e4 : (SparseCore.rows ((rowOf offs s).view.read (Elt F) fo) hn hin j).val = (offs.view.read (Elt F) fo (place ⟨128 * s.val + j.val, h⟩)).toNat := by
    rw [← e3, ← lane_symm]; rfl
  have hlt : (offs.view.read (Elt F) fo (place ⟨128 * s.val + j.val, h⟩)).toNat < 65536 := by
    rw [← e3]; exact hin (lane j)
  refine congrArg (cast _) ?_
  unfold srcAt
  rw [dif_pos hlt]
  refine congrArg _ (funext fun a => ?_)
  match a with
  | 0 => exact Fin.ext ((congrArg Fin.val (gathers_S65536_S128.rowIdx_axis _ y)).trans e4)

/-- What one row's landing puts on the semaphore. -/
theorem row_credit (s : Fin 20) (j : Fin (S128.size gathers_S65536_S128.axis')) :
    ((rowOf dst s).slice (S128.rowRect gathers_S65536_S128.axis' j) (S128.stride_rowRect gathers_S65536_S128.axis' j)).view.dmaCredit = 32 := rfl
theorem list_credit (s : Fin 20) : (rowOf dst s).view.dmaCredit = 128 * 32 := rfl

/-- Cell `128 s + j` in the spelling the stream of row `s` uses. -/
theorem cell_row (qo q : PosShare TreeShare) (fs : Buf (Elt F) (src.view.loc (thr d i))) (fo : Buf (Elt F) (offs.view.loc (thr d i)))
    (f : Buf (Elt F) (dst.view.loc (thr d i))) (s : Fin 20) (j : Fin 128) (h : 128 * s.val + j.val < 2560) :
    (cell d i src offs dst qo q fs fo f ⟨128 * s.val + j.val, h⟩ : sProp 𝕄)
      = iprop((((rowOf dst s).view.loc (thr d i) ↦[((rowOf dst s).view.slice (S128.rowRect gathers_S65536_S128.axis' j)).set]{fullShare} f)
          ∗ ((rowOf offs s).view.loc (thr d i) ↦[{(rowOf offs s).view.emb (S128.rowMajor.symm (j.cast rfl))}]{qo} fo))
        ∗ (src.view.loc (thr d i) ↦[src.view.set]{pieceOf q 2560 (by decide) ⟨128 * s.val + j.val, h⟩} fs)) := by
  unfold cell
  rw [row_set, lane_symm, rowOf_emb dst s (lane j) h, rowOf_emb offs s (lane j) h]
  rfl

variable {defs : Defs nD τ sig (Elt F) Λ₀} (𝒱 : Variants) (bd : Option 𝒱.V)
variable {α : Type} {Q : α → sProp (MT nD τ sig (HIx 1) (Elt F) ℕ UU ℕ)}
variable (sem : DmaSems sig S_) (qo q : PosShare TreeShare)
variable (fs : Buf (Elt F) (src.view.loc (thr d i))) (fo : Buf (Elt F) (offs.view.loc (thr d i))) (fd : Buf (Elt F) (dst.view.loc (thr d i)))

/-- A chunk with its first `k` rows issued and `u` units waited for. -/
abbrev chunk (k u : ℕ) : sProp 𝕄 :=
  Transfers.Batch countersEmb (thr d i) (.dma sem.sem) (default : HIx 1) 32 (cell d i src offs dst qo q fs fo (filled d i src offs dst fs fo fd)) k u

theorem rows20_drop (s : ℕ) (hs : s < 20) : rows20.drop s = ⟨s, hs⟩ :: rows20.drop (s + 1) := by
  revert s; decide

set_option maxHeartbeats 1000000 in
/-- Issue rows `s …` of a chunk. -/
theorem wp_fireFrom (hin : ∀ x, (offs.view.read (Elt F) fo x).toNat < 65536) (k : PUnit → Code F i α) :
    ∀ (m s : ℕ), s + m = 20 →
      iprop((bigSep (Transfers.pending (128 * s)) (cell d i src offs dst qo q fs fo fd)) ∗ chunk d i src offs dst sem qo q fs fo fd (128 * s) 0)
        ⊢ iprop((chunk d i src offs dst sem qo q fs fo fd 2560 0 -∗ wp frame (wpE defs 𝒱 (thr d i) bd) Set.univ (k ⟨⟩) Q)
            -∗ wp frame (wpE defs 𝒱 (thr d i) bd) Set.univ (fire i src offs dst sem (rows20.drop s) >>= k) Q)
  | 0, s, hs => by
    obtain rfl : s = 20 := hs
    iintro ⟨-, HB⟩ Hk
    iapply Hk
    iexact HB
  | m + 1, s, hs => by
    have hs' : s < 20 := by omega
    rw [rows20_drop s hs']
    have e : (fire (F := F) i src offs dst sem (⟨s, hs'⟩ :: rows20.drop (s + 1)) >>= k)
        = SparseCore.enqueueIndirectGather rfl src (rowOf dst ⟨s, hs'⟩) gathers_S65536_S128 (rowOf offs ⟨s, hs'⟩) rfl sem.sem (View.wordExact_bits rfl) rfl (Or.inl rfl)
          >>= fun _ => (fire i src offs dst sem (rows20.drop (s + 1)) >>= k) := by
      rw [fire, bind_assoc]
    rw [e]
    have hin' : ∀ x, ((rowOf offs ⟨s, hs'⟩).view.read (Elt F) fo x).toNat < S65536.size gathers_S65536_S128.axis := fun x => by
      rw [read_rowOf d i offs ⟨s, hs'⟩ fo x (by have : (x 0).val < 128 := (x 0).isLt; show 128 * s + _ < _; omega)]
      exact hin _
    iintro ⟨HP, HB⟩ Hk
    ihave HP' := (Entails.of_eq (bigSep_pending_block (cell d i src offs dst qo q fs fo fd) (128 * s) 128 (by omega))) $$ HP
    icases HP' with ⟨Hrow, HP⟩
    iapply (wp_gatherBatch countersEmb 𝒱 (thr d i) bd (hg := gathers_S65536_S128) (offs := rowOf offs ⟨s, hs'⟩) (dst := rowOf dst ⟨s, hs'⟩)
      (qo := qo) (qk := fun j => pieceOf q 2560 (by decide) ⟨128 * s + j.val, by have : j.val < 128 := j.isLt; omega⟩) (fs := fs) (fd := fd) (fo := fo)
      (n := 2560) (j₀ := 128 * s) (u := 0) (default : HIx 1) 32 (row_credit dst ⟨s, hs'⟩) (by show 128 * s + 128 ≤ 2560; omega) (Nat.zero_le _) hin'
      (fun j => by
        have hj : j.val < 128 := j.isLt
        refine Entails.trans (Entails.of_eq ?_) (Entails.of_eq (cell_row d i src offs dst qo q fs fo (filled d i src offs dst fs fo fd) ⟨s, hs'⟩ j (by show 128 * s + j.val < 2560; omega)).symm)
        rw [pointsTo_congr (g := filled d i src offs dst fs fo fd)]
        · rfl
        · intro x hx
          have hx' : x = (rowOf dst ⟨s, hs'⟩).view.emb (lane j) := Finset.mem_singleton.mp ((row_set (rowOf dst ⟨s, hs'⟩) j) ▸ hx)
          rw [hx']
          exact row_filled d i src offs dst ⟨s, hs'⟩ j (by show 128 * s + j.val < 2560; omega) fs fo fd hin' rfl)) $$ [Hrow HB]
    · isplitl [Hrow]
      · ihave H := (Entails.of_eq (BI.bigSep_congr fun (j : Fin 128) _ => cell_row d i src offs dst qo q fs fo fd ⟨s, hs'⟩ j (by show 128 * s + j.val < 2560; have := j.isLt; omega))) $$ Hrow
        iexact H
      · iexact HB
    · iintro HB
      iapply (wp_fireFrom hin k m (s + 1) (by omega)) $$ [HP HB]
      · isplitl [HP]
        · iexact HP
        · iexact HB
      · iexact Hk

/-- Issue a chunk: the buffer, a share of the list and a share of the source window go into flight. -/
theorem wp_start (hin : ∀ x, (offs.view.read (Elt F) fo x).toNat < 65536) (k : PUnit → Code F i α) :
    iprop((dst.view.loc (thr d i) ↦[dst.view.set]{fullShare} fd) ∗ (offs.view.loc (thr d i) ↦[offs.view.set]{qo} fo)
        ∗ (src.view.loc (thr d i) ↦[src.view.set]{q} fs) ∗ semVal (thr d i, SemLoc.dma sem.sem) 0)
      ⊢ iprop((chunk d i src offs dst sem qo q fs fo fd 2560 0 -∗ wp frame (wpE defs 𝒱 (thr d i) bd) Set.univ (k ⟨⟩) Q)
          -∗ wp frame (wpE defs 𝒱 (thr d i) bd) Set.univ (fire i src offs dst sem rows20 >>= k) Q) := by
  iintro ⟨Hd, Ho, Hs, Hv⟩ Hk
  imod (Transfers.batch_alloc' countersEmb (thr d i) (default : HIx 1) 32 (cell d i src offs dst qo q fs fo (filled d i src offs dst fs fo fd))) $$ Hv with HB
  iapply (wp_fireFrom d i src offs dst 𝒱 bd sem qo q fs fo fd hin k 20 0 rfl) $$ [Hd Ho Hs HB]
  · isplitl [Hd Ho Hs]
    · rw [Nat.mul_zero, Transfers.pending_zero, cells_eq]
      isplitl [Hd Ho]
      · isplitl [Hd]
        · iexact Hd
        · iexact Ho
      · iexact Hs
    · iexact HB
  · iexact Hk

/-- Wait for rows `s …` of a chunk all of whose rows are issued. -/
theorem wp_drainFrom (wsrc : Memref sig .scVector .hbm S65536 .f32) {O : CellTallies nD τ sig (HIx 1)} (k : PUnit → Code F i α) :
    ∀ (m s : ℕ) (W : Waits sig (HIx 1)), s + (m + 1) = 20 →
      iprop(Transfers.MayWaits (thr d i) (default : HIx 1) O ∗ chunk d i src offs dst sem qo q fs fo fd 2560 (128 * s * 32) ∗ owes (thr d i) O W)
        ⊢ iprop((iprop((bigSep Finset.univ (cell d i src offs dst qo q fs fo (filled d i src offs dst fs fo fd))) ∗ semVal (thr d i, SemLoc.dma sem.sem) 0
              ∗ ∃ W', ⌜∀ p ∈ W', p ∈ W ∨ p.2 = none⌝ ∗ owes (thr d i) O W') -∗ wp frame (wpE defs 𝒱 (thr d i) bd) Set.univ (k ⟨⟩) Q)
            -∗ wp frame (wpE defs 𝒱 (thr d i) bd) Set.univ (drain i wsrc dst sem (rows20.drop s) >>= k) Q)
  | 0, s, W, hs => by
    obtain rfl : s = 19 := by omega
    iintro ⟨#Hmw, HB, HO⟩ Hk
    ihave Hw := (Transfers.MayWaits.elim (SemLoc.dma sem.sem)) $$ Hmw
    iapply (Transfers.wp_waitBatchAllO countersEmb 𝒱 (thr d i) bd (default : HIx 1) (N := 32) (J := 128 * 32) (n := 2560) (u := 128 * 19 * 32) (list_credit dst 19) (by decide) (by decide)) $$ [HB HO Hw]
    · isplitl [HB]; · iexact HB
      isplitl [HO]; · iexact HO
      iexact Hw
    · iintro ⟨HD, Hv, HO⟩
      iapply Hk
      isplitl [HD]; · iexact HD
      isplitl [Hv]; · iexact Hv
      iexists (insert (SemLoc.dma sem.sem, (default : HIx 1)) W)
      isplitr
      · ipureintro
        intro p hp
        rcases Finset.mem_insert.mp hp with rfl | hp
        · exact .inr rfl
        · exact .inl hp
      · iexact HO
  | m + 1, s, W, hs => by
    have hs' : s < 20 := by omega
    rw [rows20_drop s hs']
    iintro ⟨#Hmw, HB, HO⟩ Hk
    ihave Hw := (Transfers.MayWaits.elim (SemLoc.dma sem.sem)) $$ Hmw
    iapply (Transfers.wp_waitBatchMulO countersEmb 𝒱 (thr d i) bd (default : HIx 1) (k := fun _ => drain i wsrc dst sem (rows20.drop (s + 1)) >>= k)
      (N := 32) (j := 2560) (u := 128 * s * 32) 128 (list_credit dst ⟨s, hs'⟩) (by omega)) $$ [HB HO Hw]
    · isplitl [HB]; · iexact HB
      isplitl [HO]; · iexact HO
      iexact Hw
    · iintro ⟨HB, HO⟩
      iapply (wp_drainFrom wsrc k m (s + 1) _ (by omega)) $$ [HB HO]
      · isplitr; · iexact Hmw
        isplitl [HB]
        · rw [show 128 * (s + 1) * 32 = 128 * s * 32 + 128 * 32 by omega]
          iexact HB
        · iexact HO
      · iintro ⟨HD, Hv, %W', %hW', HO⟩
        iapply Hk
        isplitl [HD]; · iexact HD
        isplitl [Hv]; · iexact Hv
        iexists W'
        isplitr
        · ipureintro
          intro p hp
          rcases hW' p hp with h | h
          · rcases Finset.mem_insert.mp h with rfl | h
            · exact .inr rfl
            · exact .inl h
          · exact .inr h
        · iexact HO

/-- Wait for a chunk in flight: the buffer comes back filled, with the list's share and the source's. -/
theorem wp_finish (wsrc : Memref sig .scVector .hbm S65536 .f32) {O : CellTallies nD τ sig (HIx 1)} {W : Waits sig (HIx 1)} (k : PUnit → Code F i α) :
    iprop(Transfers.MayWaits (thr d i) (default : HIx 1) O ∗ chunk d i src offs dst sem qo q fs fo fd 2560 0 ∗ owes (thr d i) O W)
      ⊢ iprop((iprop((dst.view.loc (thr d i) ↦[dst.view.set]{fullShare} filled d i src offs dst fs fo fd) ∗ (offs.view.loc (thr d i) ↦[offs.view.set]{qo} fo)
              ∗ (src.view.loc (thr d i) ↦[src.view.set]{q} fs) ∗ semVal (thr d i, SemLoc.dma sem.sem) 0
              ∗ ∃ W', ⌜∀ p ∈ W', p ∈ W ∨ p.2 = none⌝ ∗ owes (thr d i) O W') -∗ wp frame (wpE defs 𝒱 (thr d i) bd) Set.univ (k ⟨⟩) Q)
          -∗ wp frame (wpE defs 𝒱 (thr d i) bd) Set.univ (drain i wsrc dst sem rows20 >>= k) Q) := by
  iintro H Hk
  iapply (wp_drainFrom d i src offs dst 𝒱 bd sem qo q fs fo fd wsrc k 19 0 W rfl) $$ [H]
  · iexact H
  · iintro ⟨HD, Hv, HO⟩
    iapply Hk
    ihave HD' := (Entails.of_eq (cells_eq d i src offs dst qo q fs fo _)) $$ HD
    icases HD' with ⟨⟨Hd, Ho⟩, Hs⟩
    isplitl [Hd]; · iexact Hd
    isplitl [Ho]; · iexact Ho
    isplitl [Hs]; · iexact Hs
    isplitl [Hv]; · iexact Hv
    iexact HO

end Batch

end Cert.Proof.Chunk

end
-- ==== Proof.Index.lean ====
/-
  The index list. Entry `j` of the flattened 20 × 128 list is the word of the source, within a chunk's window, that
  place `j` of the buffer is filled from: lane `lane5 (j % 5)` of row `j / 5`. `wp_fill`: the first loop writes it.
-/
module

public import proofs.«01_k».proof.Proof.Chunk
public import Idealize.ShloMosaic.Lib.WritesUnit
public import Idealize.ShloMosaic.Lib.Pipeline.Value

@[expose] public section

noncomputable section

namespace Cert.Proof.Index

open Cert.KernelIdeal Cert.KernelIdeal.Gen Cert.Proof.Text Cert.Proof.Chunk

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The five kept lanes. -/
def lane5 (m : ℕ) : ℕ := if m = 0 then 0 else if m = 1 then 5 else if m = 2 then 17 else if m = 3 then 42 else 99

/-- Entry `j` of the list. -/
def entry (j : ℕ) : ℕ := j / 5 * 128 + lane5 (j % 5)

theorem lane5_lt (m : ℕ) : lane5 m < 128 := by unfold lane5; split_ifs <;> decide

theorem entry_lt (j : ℕ) (h : j < 2560) : entry j < 65536 := by
  have := lane5_lt (j % 5); unfold entry; omega

theorem off1_eq (t : Fin k0_t1_loop.trips) : k0_off1 t = ![t.val / 8, t.val % 8 * 16] := by
  revert t; decide +kernel

/-- Word `x` of a vector of sixteen. -/
def word (x : Fin 16) : S16.Idx := fun a => match a with
  | 0 => x

set_option maxRecDepth 16384 in
theorem pay1_word : ∀ (t : Fin 160) (x : Fin 16), k0_pay1 t (word x) = BitVec.ofNat 32 (entry (16 * t.val + x.val)) := by
  decide +kernel

/-- The sixteen words trip `t` stores. -/
theorem pay1_eq (t : Fin k0_t1_loop.trips) (l : S16.Idx) : k0_pay1 t l = BitVec.ofNat 32 (entry (16 * t.val + (l 0).val)) := by
  obtain ⟨x, rfl⟩ : ∃ x : Fin 16, l = word x := ⟨l 0, funext fun a => by match a with | 0 => rfl⟩
  exact pay1_word t x

/-- The index list's buffer. -/
abbrev idxM : Memref sig .scVector .vmem S20x128 .i32 := Memref.whole cc0_scratch0

variable (d : Dev nD) (i : grid0.Coords)

/-- The list's contents before trip `k`: the first `16 k` entries are there. -/
def Listed (k : ℕ) (f : Buf (Elt F) (idxM.view.loc (thr d i))) : Prop :=
  ∀ j : Fin 2560, j.val < 16 * k → idxM.view.read (Elt F) f (place j) = BitVec.ofNat 32 (entry j.val)

theorem listed_step (t : Fin k0_t1_loop.trips) (f : Buf (Elt F) (idxM.view.loc (thr d i))) (h : Listed d i t.val f) :
    Listed d i (t.val + 1) (idxM.view.writes (Elt F) f
      [⟨Rect.unit (k0_off1 t) S1x16.size (k0_off1_inb t), shapeCast S1x16 (k0_pay1 t) shapeCasts_S16_S1x16⟩]) := by
  intro j hj
  rw [View.read_writes_cons_unit _ _ _ _ _ _ (off1_eq t)]
  have ht : t.val < 160 := t.isLt
  have hj' := j.isLt
  split
  · next hin =>
    have h0 : t.val / 8 ≤ j.val / 128 ∧ j.val / 128 < t.val / 8 + 1 := hin 0
    have h1 : t.val % 8 * 16 ≤ j.val % 128 ∧ j.val % 128 < t.val % 8 * 16 + 16 := hin 1
    rw [shapeCast_apply (k0_pay1 t) _ _ (word ⟨j.val % 16, Nat.mod_lt _ (by decide)⟩), pay1_eq]
    · congr 2
      show 16 * t.val + j.val % 16 = j.val
      omega
    · rw [Shape.rowMajor_val_one, Shape.rowMajor_val_two]
      show j.val % 16 = (j.val / 128 - t.val / 8) * 16 + (j.val % 128 - t.val % 8 * 16)
      omega
  · next hout =>
    refine h j ?_
    by_contra hlt
    refine hout fun a => ?_
    match a with
    | 0 => show t.val / 8 ≤ j.val / 128 ∧ j.val / 128 < t.val / 8 + 1; omega
    | 1 => show t.val % 8 * 16 ≤ j.val % 128 ∧ j.val % 128 < t.val % 8 * 16 + 16; omega

variable [FloatOps F]
variable {defs : Defs nD τ sig (Elt F) Λ₀} (𝒱 : Variants) (bd : Option 𝒱.V)
variable {α : Type} {Q : α → sProp (MT nD τ sig (HIx 1) (Elt F) ℕ UU ℕ)}
variable (arg2 : Memref sig .scVector .hbm S104857600 .f32) (harg2 : arg2.IsWhole) (arg3 : Memref sig .scVector .hbm S32000x128 .f32) (harg3 : arg3.IsWhole)
  (harg4 : idxM.IsWhole) (arg5 : Memref sig .scVector .vmem S20x128 .f32) (harg5 : arg5.IsWhole)
  (arg6 : Memref sig .scVector .vmem S20x128 .f32) (harg6 : arg6.IsWhole) (arg7 arg8 r0 r1 : DmaSems sig S_)

/-- The first loop fills the list. -/
theorem wp_fill (f : Buf (Elt F) (idxM.view.loc (thr d i))) (k : Unit → Code F i α) :
    (idxM.view.loc (thr d i) ↦[idxM.view.set]{fullShare} f)
      ⊢ iprop((∀ f', iprop(⌜Listed d i 160 f'⌝ ∗ (idxM.view.loc (thr d i) ↦[idxM.view.set]{fullShare} f')) -∗ wp frame (wpE defs 𝒱 (thr d i) bd) Set.univ (k ⟨⟩) Q)
          -∗ wp frame (wpE defs 𝒱 (thr d i) bd) Set.univ
            (Scf.Loop.for k0_t1_loop k0_t1_ok ⟨⟩ (k0_t1_body i arg2 harg2 arg3 harg3 idxM harg4 arg5 harg5 arg6 harg6 arg7 arg8 r0 r1) >>= k) Q) := by
  iintro Hf Hk
  sl_for (fun n (_ : Unit) => iprop(∃ f, ⌜Listed d i n f⌝ ∗ (idxM.view.loc (thr d i) ↦[idxM.view.set]{fullShare} f))) $$ [Hf]
  · intro t _
    iintro ⟨%g, %hg, Hg⟩
    sl_exec
    sl_step
    iexists _
    isplitr
    · ipureintro
      exact listed_step d i t g hg
    · iexact Hg
  · iexists f
    isplitr
    · ipureintro
      intro j hj
      omega
    · iexact Hf
  · iintro %_ ⟨%g, %hg, Hg⟩
    iapply Hk $$ %g
    isplitr
    · ipureintro; exact hg
    · iexact Hg

end Cert.Proof.Index

end
-- ==== Proof.Slot.lean ====
/-
  One of the two buffers of a tile over a chunk: issue the chunk (`wp_launch`), wait for it (`wp_land`), copy it to its
  block of the result (`wp_copyOut`); and what the words are.
-/
module

public import proofs.«01_k».proof.Proof.Index

@[expose] public section

noncomputable section

namespace Cert.Proof.Slot

open Cert.KernelIdeal Cert.KernelIdeal.Gen Cert.Proof.Text Cert.Proof.Chunk Cert.Proof.Index

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The flattened input and the flat result, whole. -/
abbrev xM : Memref sig .scVector .hbm S104857600 .f32 := Memref.whole main_v0_scv
abbrev oM : Memref sig .scVector .hbm S32000x128 .f32 := Memref.whole main_v1_scv

/-- Word `n` of the flattened input. -/
def word1 (n : ℕ) : S104857600.Idx := fun a => match a with
  | 0 => ⟨n % 104857600, Nat.mod_lt _ (by decide)⟩

/-- The flat result the kernel leaves: place `p` in row-major order holds word `entry p` of the flattened input. -/
def want {α : Type} (X : S104857600.Idx → α) : S32000x128.Idx → α := fun y => X (word1 (entry ((y 0).val * 128 + (y 1).val)))

/-- Chunk `c` of the tile of grid point `i` reads the 65536 words from here, and its block of the result starts at this row. -/
abbrev wordOff (i : grid0.Coords) (c : ℕ) : Fin 1 → ℕ := ![6553600 * (i 1).val + 3276800 * (i 0).val + 65536 * c]
abbrev rowOff (i : grid0.Coords) (c : ℕ) : Fin 2 → ℕ := ![2000 * (i 1).val + 1000 * (i 0).val + 20 * c, 0]

variable (d : Dev nD) (i : grid0.Coords)

theorem core_lt : (i 0).val < 2 := (i 0).isLt
theorem sub_lt : (i 1).val < 16 := (i 1).isLt

/-! ## The words -/

theorem read_win (X : Buf (Elt F) (xM.view.loc (thr d i))) (off : Fin 1 → ℕ) (h : ∀ a, off a + S65536.size a ≤ S104857600.size a) (w : BitVec 32) (hw : w.toNat < 65536) :
    srcAt d i (winOf xM off h) X w = xM.view.read (Elt F) X (word1 (off 0 + w.toNat)) := by
  unfold srcAt
  rw [dif_pos hw, View.read_apply, View.read_apply]
  have hb : off 0 + 65536 ≤ 104857600 := h 0
  congr 1
  congr 1
  funext a
  match a with
  | 0 =>
    apply Fin.ext
    show off 0 + 1 * (0 + 1 * w.toNat) = (off 0 + w.toNat) % 104857600
    omega

/-- A landed chunk: what its buffer reads. -/
theorem read_filled (X : Buf (Elt F) (xM.view.loc (thr d i))) (L : Buf (Elt F) (idxM.view.loc (thr d i))) (hL : Listed d i 160 L)
    (dst : Memref sig .scVector .vmem S20x128 .f32) (fd : Buf (Elt F) (dst.view.loc (thr d i)))
    (off : Fin 1 → ℕ) (h : ∀ a, off a + S65536.size a ≤ S104857600.size a) (j : Fin 2560) :
    dst.view.read (Elt F) (filled d i (winOf xM off h) idxM dst X L fd) (place j) = xM.view.read (Elt F) X (word1 (off 0 + entry j.val)) := by
  have hj := entry_lt j.val j.isLt
  have e : (BitVec.ofNat 32 (entry j.val)).toNat = entry j.val := by
    rw [BitVec.toNat_ofNat]; exact Nat.mod_eq_of_lt (by omega)
  unfold filled
  rw [View.read_write_univ, hL j (by have := j.isLt; omega), read_win d i X off h _ (by omega), e]

/-- The list's entries stay inside a window. -/
theorem listed_lt (L : Buf (Elt F) (idxM.view.loc (thr d i))) (hL : Listed d i 160 L) (x : S20x128.Idx) :
    (idxM.view.read (Elt F) L x).toNat < 65536 := by
  obtain ⟨j, rfl⟩ := place_bijective.2 x
  have hj := entry_lt j.val j.isLt
  rw [hL j (by have := j.isLt; omega), BitVec.toNat_ofNat]
  omega

/-- The words of a chunk are its block of the result. -/
theorem entry_chunk (c : ℕ) (j : Fin 2560) :
    6553600 * (i 1).val + 3276800 * (i 0).val + 65536 * c + entry j.val
      = entry ((2000 * (i 1).val + 1000 * (i 0).val + 20 * c + j.val / 128) * 128 + j.val % 128) := by
  unfold entry
  rw [show ((2000 * (i 1).val + 1000 * (i 0).val + 20 * c + j.val / 128) * 128 + j.val % 128) / 5
      = 51200 * (i 1).val + 25600 * (i 0).val + 512 * c + j.val / 5 by omega,
    show ((2000 * (i 1).val + 1000 * (i 0).val + 20 * c + j.val / 128) * 128 + j.val % 128) % 5 = j.val % 5 by omega]
  ring

/-! ## A chunk in flight -/

section Flight

variable (dst : Memref sig .scVector .vmem S20x128 .f32) (sem : DmaSems sig S_) (qo q : PosShare TreeShare)
variable (X : Buf (Elt F) (xM.view.loc (thr d i))) (L : Buf (Elt F) (idxM.view.loc (thr d i)))

/-- The buffer with a chunk in flight from the window at `off`; the tile keeps the source's share off the window. -/
def flying (off : Fin 1 → ℕ) : sProp 𝕄 :=
  iprop(∃ (h : ∀ a, off a + S65536.size a ≤ S104857600.size a) (fd : Buf (Elt F) (dst.view.loc (thr d i))),
    chunk d i (winOf xM off h) idxM dst sem qo q X L fd 2560 0
      ∗ (xM.view.loc (thr d i) ↦[Finset.univ \ (winOf xM off h).view.set]{q} X))

/-- The buffer at rest, with its shares of the list and of the source and its semaphore. -/
def resting (g : Buf (Elt F) (dst.view.loc (thr d i))) : sProp 𝕄 :=
  iprop((dst.view.loc (thr d i) ↦[dst.view.set]{fullShare} g) ∗ (idxM.view.loc (thr d i) ↦[idxM.view.set]{qo} L)
    ∗ (xM.view.loc (thr d i) ↦{q} X) ∗ semVal (thr d i, SemLoc.dma sem.sem) 0)

variable {defs : Defs nD τ sig (Elt F) Λ₀} (𝒱 : Variants) (bd : Option 𝒱.V)
variable {α : Type} {Q : α → sProp (MT nD τ sig (HIx 1) (Elt F) ℕ UU ℕ)}

theorem wp_launch (hL : Listed d i 160 L) (off : Fin 1 → ℕ) (h : ∀ a, off a + S65536.size a ≤ S104857600.size a)
    (g : Buf (Elt F) (dst.view.loc (thr d i))) (k : PUnit → Code F i α) :
    resting d i dst sem qo q X L g
      ⊢ iprop((flying d i dst sem qo q X L off -∗ wp frame (wpE defs 𝒱 (thr d i) bd) Set.univ (k ⟨⟩) Q)
          -∗ wp frame (wpE defs 𝒱 (thr d i) bd) Set.univ (fire i (winOf xM off h) idxM dst sem rows20 >>= k) Q) := by
  unfold resting
  iintro ⟨Hd, Ho, Hx, Hv⟩ Hk
  ihave Hx' := (pointsTo_split_subset (q := q) (f := X) (Finset.subset_univ (winOf xM off h).view.set)).1 $$ Hx
  icases Hx' with ⟨Hw, Hr⟩
  iapply (wp_start d i (winOf xM off h) idxM dst 𝒱 bd sem qo q X L g (listed_lt d i L hL) k) $$ [Hd Ho Hw Hv]
  · isplitl [Hd]; · iexact Hd
    isplitl [Ho]; · iexact Ho
    isplitl [Hw]; · iexact Hw
    iexact Hv
  · iintro HB
    iapply Hk
    unfold flying
    iexists h
    iexists g
    isplitl [HB]; · iexact HB
    iexact Hr

theorem wp_land (hL : Listed d i 160 L) (off : Fin 1 → ℕ) (wsrc : Memref sig .scVector .hbm S65536 .f32)
    {O : CellTallies nD τ sig (HIx 1)} {W : Waits sig (HIx 1)} (k : PUnit → Code F i α) :
    iprop(Transfers.MayWaits (thr d i) (default : HIx 1) O ∗ flying d i dst sem qo q X L off ∗ owes (thr d i) O W)
      ⊢ iprop((iprop((∃ g, ⌜∀ j : Fin 2560, dst.view.read (Elt F) g (place j) = xM.view.read (Elt F) X (word1 (off 0 + entry j.val))⌝
                ∗ resting d i dst sem qo q X L g)
              ∗ ∃ W', ⌜∀ p ∈ W', p ∈ W ∨ p.2 = none⌝ ∗ owes (thr d i) O W') -∗ wp frame (wpE defs 𝒱 (thr d i) bd) Set.univ (k ⟨⟩) Q)
          -∗ wp frame (wpE defs 𝒱 (thr d i) bd) Set.univ (drain i wsrc dst sem rows20 >>= k) Q) := by
  unfold flying
  iintro ⟨Hmw, ⟨%h, %fd, HB, Hr⟩, HO⟩ Hk
  iapply (wp_finish d i (winOf xM off h) idxM dst 𝒱 bd sem qo q X L fd wsrc k) $$ [Hmw HB HO]
  · isplitl [Hmw]; · iexact Hmw
    isplitl [HB]; · iexact HB
    iexact HO
  · iintro ⟨Hd, Ho, Hw, Hv, HO⟩
    iapply Hk
    isplitr [HO]
    · iexists _
      isplitr
      · ipureintro
        exact fun j => read_filled d i X L hL dst fd off h j
      · unfold resting
        isplitl [Hd]; · iexact Hd
        isplitl [Ho]; · iexact Ho
        isplitl [Hw Hr]
        · iapply (pointsTo_split_subset (q := q) (f := X) (Finset.subset_univ (winOf xM off h).view.set)).2
          isplitl [Hw]; · iexact Hw
          iexact Hr
        · iexact Hv
    · iexact HO

variable (r : DmaSems sig S_) (hdst : dst.IsWhole) (ob : Memref sig .scVector .hbm S20x128 .f32) (hob : ob.view.WordExact)

theorem wp_copyOut {O : CellTallies nD τ sig (HIx 1)} {W : Waits sig (HIx 1)} (g : Buf (Elt F) (dst.view.loc (thr d i)))
    (fo : Buf (Elt F) (ob.view.loc (thr d i))) (k : PUnit → Code F i α) :
    iprop(Transfers.MayWaits (thr d i) (default : HIx 1) O ∗ (dst.view.loc (thr d i) ↦[dst.view.set]{fullShare} g)
        ∗ (ob.view.loc (thr d i) ↦[ob.view.set]{fullShare} fo) ∗ semVal (thr d i, SemLoc.dma r.sem) 0 ∗ owes (thr d i) O W)
      ⊢ iprop((iprop((dst.view.loc (thr d i) ↦[dst.view.set]{fullShare} g)
              ∗ (∃ fo' : Buf (Elt F) (ob.view.loc (thr d i)), ⌜ob.view.read (Elt F) fo' = dst.view.read (Elt F) g⌝ ∗ (ob.view.loc (thr d i) ↦[ob.view.set]{fullShare} fo'))
              ∗ semVal (thr d i, SemLoc.dma r.sem) 0
              ∗ ∃ W', ⌜∀ p ∈ W', p ∈ W ∨ p.2 = none⌝ ∗ owes (thr d i) O W') -∗ wp frame (wpE defs 𝒱 (thr d i) bd) Set.univ (k ⟨⟩) Q)
          -∗ wp frame (wpE defs 𝒱 (thr d i) bd) Set.univ (copyOut i dst hdst ob hob r >>= k) Q) := by
  unfold copyOut
  iintro ⟨#Hmw, Hd, Ho, Hv, HO⟩ Hk
  sl_exec
  iapply Hk
  isplitl [Hd]; · iexact Hd
  isplitl [Ho]
  · iexists _
    isplitr
    · ipureintro
      refine funext fun y => ?_
      have e := View.read_writes_cons_emb ob.view fo (Rect.whole S20x128) (dst.view.read (Elt F) g) [] y
      rw [Rect.emb_whole_apply] at e
      exact e
    · iexact Ho
  isplitl [Hv]; · iexact Hv
  iexists (insert (SemLoc.dma r.sem, (default : HIx 1)) W)
  isplitr
  · ipureintro
    intro p hp
    rcases Finset.mem_insert.mp hp with rfl | hp
    · exact .inr rfl
    · exact .inl hp
  · iexact HO

end Flight

/-! ## Half a trip: one buffer, from one chunk to the next but one -/

/-- The rows of the result that the tile writes. -/
def tileRows (i : grid0.Coords) : Finset S32000x128.Idx := Finset.univ.filter fun y => (y 0).val / 1000 = 2 * (i 1).val + (i 0).val

theorem mem_tileRows (y : S32000x128.Idx) : y ∈ tileRows i ↔ (y 0).val / 1000 = 2 * (i 1).val + (i 0).val := by
  unfold tileRows; rw [Finset.mem_filter]; exact ⟨fun h => h.2, fun h => ⟨Finset.mem_univ _, h⟩⟩

/-- The tile's chunks below `c` are in the result. -/
def Done (X : Buf (Elt F) (xM.view.loc (thr d i))) (c : ℕ) (g : Buf (Elt F) (oM.view.loc (thr d i))) : Prop :=
  ∀ y ∈ tileRows i, (y 0).val < 2000 * (i 1).val + 1000 * (i 0).val + 20 * c → oM.view.read (Elt F) g y = want (xM.view.read (Elt F) X) y

/-- Chunk `c`'s block of the result. -/
abbrev blockOf (c : ℕ) (h : ∀ a, rowOff i c a + S20x128.size a ≤ S32000x128.size a) : Memref sig .scVector .hbm S20x128 .f32 :=
  oM.slice (Rect.unit (rowOff i c) S20x128.size h) (fun _ => rfl)

theorem mem_block (c : ℕ) (h : ∀ a, rowOff i c a + S20x128.size a ≤ S32000x128.size a) (y : S32000x128.Idx) :
    y ∈ (blockOf i c h).view.set ↔ 2000 * (i 1).val + 1000 * (i 0).val + 20 * c ≤ (y 0).val ∧ (y 0).val < 2000 * (i 1).val + 1000 * (i 0).val + 20 * c + 20 := by
  have e : (blockOf i c h).view.set = (Rect.unit (s := S32000x128) (rowOff i c) S20x128.size h).set := by
    show ((View.whole (main_v1_scv : Ref sig .scVector)).slice (Rect.unit (s := S32000x128) (rowOff i c) S20x128.size h)).set = _
    rw [View.set_slice]
    exact Finset.map_refl
  rw [e, Rect.mem_set_unit]
  have hy1 : (y 1).val < 128 := (y 1).isLt
  constructor
  · exact fun H => H 0
  · intro H a
    match a with
    | 0 => exact H
    | 1 => show 0 ≤ (y 1).val ∧ (y 1).val < 0 + 128; omega

theorem block_sub (c : ℕ) (hc : c < 50) (h : ∀ a, rowOff i c a + S20x128.size a ≤ S32000x128.size a) :
    (blockOf i c h).view.set ⊆ tileRows i := by
  intro y hy
  have := (mem_block i c h y).mp hy
  rw [mem_tileRows]
  have := core_lt i
  omega

theorem done_step (X : Buf (Elt F) (xM.view.loc (thr d i))) (c : ℕ) (h : ∀ a, rowOff i c a + S20x128.size a ≤ S32000x128.size a)
    (g go : Buf (Elt F) (oM.view.loc (thr d i))) (hg : Done d i X c g)
    (hgo : ∀ j : Fin 2560, (blockOf i c h).view.read (Elt F) go (place j) = xM.view.read (Elt F) X (word1 (wordOff i c 0 + entry j.val))) :
    Done d i X (c + 1) (fun y => if y ∈ (blockOf i c h).view.set then go y else g y) := by
  intro y hy hlt
  by_cases hm : y ∈ (blockOf i c h).view.set
  · have hb := (mem_block i c h y).mp hm
    have hy1 : (y 1).val < 128 := (y 1).isLt
    obtain ⟨j, hj⟩ : ∃ j : Fin 2560, j.val = ((y 0).val - (2000 * (i 1).val + 1000 * (i 0).val + 20 * c)) * 128 + (y 1).val :=
      ⟨⟨_, by omega⟩, rfl⟩
    have e := hgo j
    rw [show wordOff i c 0 + entry j.val = entry ((y 0).val * 128 + (y 1).val) from by
      show 6553600 * (i 1).val + 3276800 * (i 0).val + 65536 * c + entry j.val = _
      rw [entry_chunk i c j]
      congr 1
      omega] at e
    refine Eq.trans ?_ e
    rw [View.read_apply, View.read_apply]
    have hem : (blockOf i c h).view.emb (place j) = y := by
      funext a
      apply Fin.ext
      match a with
      | 0 =>
        show (2000 * (i 1).val + 1000 * (i 0).val + 20 * c) + 1 * (j.val / 128) = (y 0).val
        omega
      | 1 =>
        show 0 + 1 * (j.val % 128) = (y 1).val
        omega
    rw [hem]
    congr 1
    exact if_pos hm
  · have hb := mt (mem_block i c h y).mpr hm
    have e := hg y hy (by omega)
    rw [← e, View.read_apply, View.read_apply]
    congr 1
    exact if_neg hm

end Cert.Proof.Slot

end
-- ==== Proof.Tile.lean ====
/-
  A tile's run: the index list, the first two chunks issued, then the trips. `wp_half` is one buffer's half of a trip,
  `wp_tile` the whole body.
-/
module

public import proofs.«01_k».proof.Proof.Slot

@[expose] public section

noncomputable section

namespace Cert.Proof.Tile

open Cert.KernelIdeal Cert.KernelIdeal.Gen Cert.Proof.Text Cert.Proof.Chunk Cert.Proof.Index Cert.Proof.Slot

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (i : grid0.Coords)
variable (X : Buf (Elt F) (xM.view.loc (thr d i))) (L : Buf (Elt F) (idxM.view.loc (thr d i)))

/-- A buffer before its chunk `c`: in flight if there is such a chunk, at rest if not. -/
def slot (dst : Memref sig .scVector .vmem S20x128 .f32) (sem : DmaSems sig S_) (qo q : PosShare TreeShare) (c : ℕ) : sProp 𝕄 :=
  if c < 50 then flying d i dst sem qo q X L (wordOff i c) else iprop(∃ g, resting d i dst sem qo q X L g)

/-- The tile's rows of the result with its chunks below `c` there. -/
def result (c : ℕ) : sProp 𝕄 := iprop(∃ g, ⌜Done d i X c g⌝ ∗ (oM.view.loc (thr d i) ↦[tileRows i]{fullShare} g))

/-- The tile's waits so far, over those at its start. -/
def waited (O : CellTallies nD τ sig (HIx 1)) (W : Waits sig (HIx 1)) : sProp 𝕄 :=
  iprop(∃ W', ⌜∀ p ∈ W', p ∈ W ∨ p.2 = none⌝ ∗ owes (thr d i) O W')

variable {defs : Defs nD τ sig (Elt F) Λ₀} (𝒱 : Variants) (bd : Option 𝒱.V)
variable {α : Type} {Q : α → sProp (MT nD τ sig (HIx 1) (Elt F) ℕ UU ℕ)}
variable {O : CellTallies nD τ sig (HIx 1)} {W : Waits sig (HIx 1)}

/-- A piece and the rest of a set, at the contents that agree with each. -/
theorem join_piece {ℓ : Loc nD τ sig} {I S : Finset (Idx ℓ)} (h : I ⊆ S) (q : PosShare TreeShare) {f g k : Buf (Elt F) ℓ}
    (hf : ∀ y ∈ I, k y = f y) (hg : ∀ y ∈ S \ I, k y = g y) :
    iprop((ℓ ↦[I]{q} f) ∗ (ℓ ↦[S \ I]{q} g)) ⊢ (ℓ ↦[S]{q} k : sProp 𝕄) := by
  rw [← pointsTo_congr hf, ← pointsTo_congr hg]
  exact (pointsTo_split_subset h).2

/-- Half a trip. -/
theorem wp_half (hL : Listed d i 160 L) (dst : Memref sig .scVector .vmem S20x128 .f32) (hdst : dst.IsWhole) (sem r : DmaSems sig S_) (qo q : PosShare TreeShare)
    (c : ℕ) (hc : c < 50) (wsrc : Memref sig .scVector .hbm S65536 .f32)
    (off : Fin 2 → ℕ) (h : ∀ a, off a + S20x128.size a ≤ S32000x128.size a) (eoff : off = rowOff i c)
    (P : Prop) [Decidable P] (hP : P ↔ c + 2 < 50) (next : Fin 1 → ℕ) (hn : P → ∀ a, next a + S65536.size a ≤ S104857600.size a)
    (enext : next = wordOff i (c + 2)) (k : PUnit → Code F i α) :
    iprop(Transfers.MayWaits (thr d i) (default : HIx 1) O ∗ slot d i X L dst sem qo q c ∗ result d i X c ∗ semVal (thr d i, SemLoc.dma r.sem) 0 ∗ waited d i O W)
      ⊢ iprop((iprop(slot d i X L dst sem qo q (c + 2) ∗ result d i X (c + 1) ∗ semVal (thr d i, SemLoc.dma r.sem) 0 ∗ waited d i O W)
            -∗ wp frame (wpE defs 𝒱 (thr d i) bd) Set.univ (k ⟨⟩) Q)
          -∗ wp frame (wpE defs 𝒱 (thr d i) bd) Set.univ (drain i wsrc dst sem rows20 >>= fun _ =>
            copyOut i dst hdst (oM.slice (Rect.unit off S20x128.size h) (fun _ => rfl)) (View.wordExact_bits rfl) r >>= fun _ =>
            (if hp : P then fire i (winOf xM next (hn hp)) idxM dst sem rows20 else pure ⟨⟩) >>= k) Q) := by
  subst eoff enext
  unfold slot result waited
  rw [if_pos hc]
  iintro ⟨#Hmw, HA, ⟨%g, %hg, Ho⟩, Hr, ⟨%W₁, %hW₁, HO⟩⟩ Hk
  iapply (wp_land d i dst sem qo q X L 𝒱 bd hL (wordOff i c) wsrc) $$ [HA HO]
  · isplitr; · iexact Hmw
    isplitl [HA]; · iexact HA
    iexact HO
  iintro ⟨⟨%b, %hb, HA⟩, ⟨%W₂, %hW₂, HO⟩⟩
  ihave HA' := (Entails.of_eq (show resting d i dst sem qo q X L b = _ from rfl)) $$ HA
  unfold resting
  icases HA' with ⟨Hd, Hi, Hx, Hv⟩
  ihave Ho' := (pointsTo_split_subset (q := fullShare) (f := g) (block_sub i c hc h)).1 $$ Ho
  icases Ho' with ⟨Hb, Hrest⟩
  iapply (wp_copyOut d i dst 𝒱 bd r hdst (blockOf i c h) (View.wordExact_bits rfl) b g) $$ [Hd Hb Hr HO]
  · isplitr; · iexact Hmw
    isplitl [Hd]; · iexact Hd
    isplitl [Hb]; · iexact Hb
    isplitl [Hr]; · iexact Hr
    iexact HO
  iintro ⟨Hd, ⟨%go, %hgo, Hb⟩, Hr, ⟨%W₃, %hW₃, HO⟩⟩
  obtain ⟨g', hin, hout, hstep⟩ : ∃ g' : Buf (Elt F) (oM.view.loc (thr d i)), (∀ y ∈ (blockOf i c h).view.set, g' y = go y)
      ∧ (∀ y, y ∉ (blockOf i c h).view.set → g' y = g y) ∧ Done d i X (c + 1) g' :=
    ⟨_, fun _ hy => if_pos hy, fun _ hy => if_neg hy, done_step d i X c h g go hg (fun j => (congrFun hgo (place j)).trans (hb j))⟩
  have hjoin : iprop(((blockOf i c h).view.loc (thr d i) ↦[(blockOf i c h).view.set]{fullShare} go) ∗ (oM.view.loc (thr d i) ↦[tileRows i \ (blockOf i c h).view.set]{fullShare} g))
      ⊢ (iprop(∃ g', ⌜Done d i X (c + 1) g'⌝ ∗ (oM.view.loc (thr d i) ↦[tileRows i]{fullShare} g')) : sProp 𝕄) := by
    refine BI.Entails.trans (join_piece (ℓ := oM.view.loc (thr d i)) (block_sub i c hc h) fullShare (f := go) (g := g) (k := g')
      hin (fun y hy => hout y (Finset.mem_sdiff.mp hy).2)) ?_
    show (oM.view.loc (thr d i) ↦[tileRows i]{fullShare} g') ⊢ _
    iintro H
    iexists g'
    isplitr
    · ipureintro; exact hstep
    · iexact H
  ihave Ho := hjoin $$ [Hb Hrest]
  · isplitl [Hb]; · iexact Hb
    iexact Hrest
  have hW : ∀ p ∈ W₃, p ∈ W ∨ p.2 = none := fun p hp => (hW₃ p hp).elim (fun hp => (hW₂ p hp).elim (hW₁ p) .inr) .inr
  by_cases hp : P
  · rw [dif_pos hp, if_pos (hP.mp hp)]
    iapply (wp_launch d i dst sem qo q X L 𝒱 bd hL (wordOff i (c + 2)) (hn hp) b) $$ [Hd Hi Hx Hv]
    · unfold resting
      isplitl [Hd]; · iexact Hd
      isplitl [Hi]; · iexact Hi
      isplitl [Hx]; · iexact Hx
      iexact Hv
    iintro HA
    iapply Hk
    isplitl [HA]; · iexact HA
    isplitl [Ho]; · iexact Ho
    isplitl [Hr]; · iexact Hr
    iexists W₃
    isplitr
    · ipureintro; exact hW
    · iexact HO
  · rw [dif_neg hp, if_neg (mt hP.mpr hp)]
    iapply Hk
    isplitl [Hd Hi Hx Hv]
    · iexists b
      isplitl [Hd]; · iexact Hd
      isplitl [Hi]; · iexact Hi
      isplitl [Hx]; · iexact Hx
      iexact Hv
    isplitl [Ho]; · iexact Ho
    isplitl [Hr]; · iexact Hr
    iexists W₃
    isplitr
    · ipureintro; exact hW
    · iexact HO

/-! ## The conditions and the trips -/

theorem cond1_iff (t : Fin k0_t2_loop.trips) : k0_cond1 t = 1#1 ↔ 2 * t.val + 2 < 50 := by
  revert t; decide +kernel
theorem cond2_iff (t : Fin k0_t2_loop.trips) : k0_cond2 t = 1#1 ↔ 2 * t.val + 1 + 2 < 50 := by
  revert t; decide +kernel

theorem off4_eq (t : Fin k0_t2_loop.trips) : k0_off4 i t = rowOff i (2 * t.val) := by
  rw [k0_off4_eq]; unfold rowOff; congr 1; omega
theorem off7_eq (t : Fin k0_t2_loop.trips) : k0_off7 i t = rowOff i (2 * t.val + 1) := by
  rw [k0_off7_eq]; unfold rowOff; congr 1; omega
theorem off5_eq (t : Fin k0_t2_loop.trips) : k0_off5 i t = wordOff i (2 * t.val + 2) := by
  rw [k0_off5_eq]; exact congrArg (fun n : ℕ => (![n] : Fin 1 → ℕ)) (by omega)
theorem off8_eq (t : Fin k0_t2_loop.trips) : k0_off8 i t = wordOff i (2 * t.val + 1 + 2) := by
  rw [k0_off8_eq]; exact congrArg (fun n : ℕ => (![n] : Fin 1 → ℕ)) (by omega)

/-- The tile's two buffers. -/
abbrev aM : Memref sig .scVector .vmem S20x128 .f32 := Memref.whole cc0_scratch1
abbrev bM : Memref sig .scVector .vmem S20x128 .f32 := Memref.whole cc0_scratch2

variable (q : PosShare TreeShare)

/-- What the tile holds before trip `t`. -/
def before (O : CellTallies nD τ sig (HIx 1)) (W : Waits sig (HIx 1)) (t : ℕ) : sProp 𝕄 :=
  iprop(slot d i X L aM cc0_scratch3 fullShare.left q.left (2 * t) ∗ slot d i X L bM cc0_scratch4 fullShare.right q.right (2 * t + 1)
    ∗ result d i X (2 * t) ∗ semVal (thr d i, SemLoc.dma cc0_scoped0.sem) 0 ∗ semVal (thr d i, SemLoc.dma cc0_scoped1.sem) 0 ∗ waited d i O W)

theorem wp_trip (hL : Listed d i 160 L) (ha : aM.IsWhole) (hb : bM.IsWhole) (t : Fin k0_t2_loop.trips) :
    iprop(Transfers.MayWaits (thr d i) (default : HIx 1) O ∗ before d i X L q O W t.val)
      ⊢ wp frame (wpE defs 𝒱 (thr d i) bd) Set.univ (trip i xM oM idxM aM ha bM hb cc0_scratch3 cc0_scratch4 cc0_scoped0 cc0_scoped1 t)
          (fun _ => iprop(Transfers.MayWaits (thr d i) (default : HIx 1) O ∗ before d i X L q O W (t.val + 1))) := by
  have ht : t.val < 25 := t.isLt
  unfold before trip
  iintro ⟨#Hmw, HA, HB, Ho, Hr0, Hr1, HO⟩
  iapply (wp_half d i X L 𝒱 bd hL aM ha cc0_scratch3 cc0_scoped0 fullShare.left q.left (2 * t.val) (by omega) (winOf xM (k0_off3 i t) (k0_off3_inb i t))
    (k0_off4 i t) (k0_off4_inb i t) (off4_eq i t) (k0_cond1 t = 1#1) (cond1_iff t) (k0_off5 i t) (k0_off5_inb i t) (off5_eq i t)) $$ [HA Ho Hr0 HO]
  · isplitr; · iexact Hmw
    isplitl [HA]; · iexact HA
    isplitl [Ho]; · iexact Ho
    isplitl [Hr0]; · iexact Hr0
    iexact HO
  iintro ⟨HA, Ho, Hr0, HO⟩
  have e := wp_half (defs := defs) (Q := fun _ => iprop(Transfers.MayWaits (thr d i) (default : HIx 1) O ∗ before d i X L q O W (t.val + 1))) (O := O) (W := W) d i X L 𝒱 bd hL bM hb cc0_scratch4 cc0_scoped1 fullShare.right q.right (2 * t.val + 1) (by omega)
    (winOf xM (k0_off6 i t) (k0_off6_inb i t)) (k0_off7 i t) (k0_off7_inb i t) (off7_eq i t) (k0_cond2 t = 1#1) (cond2_iff t) (k0_off8 i t) (k0_off8_inb i t) (off8_eq i t) pure
  simp only [bind_pure] at e
  iapply e $$ [HB Ho Hr1 HO]
  · isplitr; · iexact Hmw
    isplitl [HB]; · iexact HB
    isplitl [Ho]; · iexact Ho
    isplitl [Hr1]; · iexact Hr1
    iexact HO
  iintro ⟨HB, Ho, Hr1, HO⟩
  sl_step
  isplitr; · iexact Hmw
  unfold before
  rw [show 2 * (t.val + 1) = 2 * t.val + 2 by omega, show 2 * t.val + 2 + 1 = 2 * t.val + 1 + 2 by omega]
  isplitl [HA]; · iexact HA
  isplitl [HB]; · iexact HB
  isplitl [Ho]; · iexact Ho
  isplitl [Hr0]; · iexact Hr0
  isplitl [Hr1]; · iexact Hr1
  iexact HO

variable [FloatOps F]

/-- A tile's whole run: the index list is built, the first two chunks are issued, the trips take every chunk to its
    block of the result. -/
theorem wp_tile (h2 : xM.IsWhole) (h3 : oM.IsWhole) (h4 : idxM.IsWhole) (ha : aM.IsWhole) (hb : bM.IsWhole)
    (f : Buf (Elt F) (idxM.view.loc (thr d i))) (ga : Buf (Elt F) (aM.view.loc (thr d i))) (gb : Buf (Elt F) (bM.view.loc (thr d i)))
    (go : Buf (Elt F) (oM.view.loc (thr d i))) :
    iprop(Transfers.MayWaits (thr d i) (default : HIx 1) O ∗ (idxM.view.loc (thr d i) ↦[idxM.view.set]{fullShare} f)
        ∗ (aM.view.loc (thr d i) ↦[aM.view.set]{fullShare} ga) ∗ (bM.view.loc (thr d i) ↦[bM.view.set]{fullShare} gb)
        ∗ (xM.view.loc (thr d i) ↦{q} X) ∗ (oM.view.loc (thr d i) ↦[tileRows i]{fullShare} go)
        ∗ semVal (thr d i, SemLoc.dma cc0_scratch3.sem) 0 ∗ semVal (thr d i, SemLoc.dma cc0_scratch4.sem) 0
        ∗ semVal (thr d i, SemLoc.dma cc0_scoped0.sem) 0 ∗ semVal (thr d i, SemLoc.dma cc0_scoped1.sem) 0 ∗ owes (thr d i) O W)
      ⊢ wp frame (wpE defs 𝒱 (thr d i) bd) Set.univ
          (cc0__sc_body (F := F) i xM h2 oM h3 idxM h4 aM ha bM hb cc0_scratch3 cc0_scratch4 cc0_scoped0 cc0_scoped1)
          (fun _ => iprop((∃ f : Buf (Elt F) (idxM.view.loc (thr d i)), idxM.view.loc (thr d i) ↦[idxM.view.set]{fullShare} f)
            ∗ (∃ f : Buf (Elt F) (aM.view.loc (thr d i)), aM.view.loc (thr d i) ↦[aM.view.set]{fullShare} f)
            ∗ (∃ f : Buf (Elt F) (bM.view.loc (thr d i)), bM.view.loc (thr d i) ↦[bM.view.set]{fullShare} f)
            ∗ (xM.view.loc (thr d i) ↦{q} X) ∗ result d i X 50
            ∗ semVal (thr d i, SemLoc.dma cc0_scratch3.sem) 0 ∗ semVal (thr d i, SemLoc.dma cc0_scratch4.sem) 0
            ∗ semVal (thr d i, SemLoc.dma cc0_scoped0.sem) 0 ∗ semVal (thr d i, SemLoc.dma cc0_scoped1.sem) 0 ∗ waited d i O W)) := by
  rw [body_eq]
  iintro ⟨#Hmw, Hf, Ha, Hb, Hx, Ho, Hva, Hvb, Hr0, Hr1, HO⟩
  iapply (wp_fill d i 𝒱 bd xM h2 oM h3 h4 aM ha bM hb cc0_scratch3 cc0_scratch4 cc0_scoped0 cc0_scoped1 f) $$ [Hf]
  · iexact Hf
  iintro %L ⟨%hL, Hf⟩
  ihave Hf' := (pointsTo_share (PosShare.mem_left_op_right (fullShare : PosShare TreeShare))).1 $$ Hf
  icases Hf' with ⟨Hfl, Hfr⟩
  ihave Hx' := (pointsTo_share (PosShare.mem_left_op_right q)).1 $$ Hx
  icases Hx' with ⟨Hxl, Hxr⟩
  iapply (wp_launch d i aM cc0_scratch3 fullShare.left q.left X L 𝒱 bd hL (k0_off2 i 0#32) (k0_off2_inb i 0) ga) $$ [Ha Hfl Hxl Hva]
  · unfold resting
    isplitl [Ha]; · iexact Ha
    isplitl [Hfl]; · iexact Hfl
    isplitl [Hxl]; · iexact Hxl
    iexact Hva
  iintro HA
  iapply (wp_launch d i bM cc0_scratch4 fullShare.right q.right X L 𝒱 bd hL (k0_off2 i 512#32) (k0_off2_inb i 1) gb) $$ [Hb Hfr Hxr Hvb]
  · unfold resting
    isplitl [Hb]; · iexact Hb
    isplitl [Hfr]; · iexact Hfr
    isplitl [Hxr]; · iexact Hxr
    iexact Hvb
  iintro HB
  sl_for (fun t (_ : Unit) => iprop(Transfers.MayWaits (thr d i) (default : HIx 1) O ∗ before d i X L q O W t)) $$ [Hmw HA HB Ho Hr0 Hr1 HO]
  · intro t _
    exact wp_trip d i X L 𝒱 bd q hL ha hb t
  · isplitr; · iexact Hmw
    unfold before slot result waited
    rw [if_pos (by decide), if_pos (by decide)]
    isplitl [HA]
    · rw [show wordOff i (2 * 0) = k0_off2 i 0#32 from (k0_off2_eq i 0).symm]
      iexact HA
    isplitl [HB]
    · rw [show wordOff i (2 * 0 + 1) = k0_off2 i 512#32 from (k0_off2_eq i 1).symm]
      iexact HB
    isplitl [Ho]
    · iexists go
      isplitr
      · ipureintro
        intro y hy hlt
        have hy' := (mem_tileRows i y).mp hy
        omega
      · iexact Ho
    isplitl [Hr0]; · iexact Hr0
    isplitl [Hr1]; · iexact Hr1
    iexists W
    isplitr
    · ipureintro; exact fun p hp => .inl hp
    · iexact HO
  · iintro %_ ⟨-, H⟩
    sl_step
    have ht : Scf.trips k0_t2_loop.lb k0_t2_loop.ub k0_t2_loop.st = 25 := by decide
    rw [ht]
    ihave H' := (Entails.of_eq (show (before d i X L q O W 25 : sProp 𝕄) = _ from rfl)) $$ H
    unfold before slot resting
    rw [if_neg (by decide), if_neg (by decide)]
    icases H' with ⟨⟨%ga', Ha, Hfl, Hxl, Hva⟩, ⟨%gb', Hb, Hfr, Hxr, Hvb⟩, Ho, Hr0, Hr1, HO⟩
    isplitl [Hfl Hfr]
    · iexists L
      iapply (pointsTo_share (PosShare.mem_left_op_right (fullShare : PosShare TreeShare))).2
      isplitl [Hfl]; · iexact Hfl
      iexact Hfr
    isplitl [Ha]; · iexists ga'; iexact Ha
    isplitl [Hb]; · iexists gb'; iexact Hb
    isplitl [Hxl Hxr]
    · iapply (pointsTo_share (PosShare.mem_left_op_right q)).2
      isplitl [Hxl]; · iexact Hxl
      iexact Hxr
    isplitl [Ho]; · iexact Ho
    isplitl [Hva]; · iexact Hva
    isplitl [Hvb]; · iexact Hvb
    isplitl [Hr0]; · iexact Hr0
    isplitl [Hr1]; · iexact Hr1
    iexact HO

end Cert.Proof.Tile

end
-- ==== Proof.Launch.lean ====
/-
  The launch: the reshape to the flat input, the call on two SparseCores of sixteen tiles each, the reshape of what
  they wrote. Every tile reads the flat input at its own share and owns its thousand rows of the result, so the call
  hands each core a half of the input's share and the rows of its tiles, and gets them back at the gathered words.
-/
module

public import proofs.«01_k».proof.Proof.Tile
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Launch

open Cert.KernelIdeal Cert.KernelIdeal.Gen Cert.Proof.Text Cert.Proof.Chunk Cert.Proof.Index Cert.Proof.Slot Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch asks of its semaphores and of the subcores' buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

/-! ## The arrays -/

abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The input as one row of words. -/
def flat (d : Dev nD) : Buf (Elt F) (xLoc d) :=
  (shapeCast S104857600 (m (aLoc d) : S4096x200x128.Idx → Elt F .f32) shapeCasts_S4096x200x128_S104857600 : S104857600.Idx → Elt F .f32)
/-- What the tiles leave. -/
def gathered (d : Dev nD) : Buf (Elt F) (oLoc d) := (want (flat m d : S104857600.Idx → Elt F .f32) : S32000x128.Idx → Elt F .f32)
/-- The program's result. -/
def picked (d : Dev nD) : Buf (Elt F) (rLoc d) :=
  (shapeCast S4096x200x5 (gathered m d : S32000x128.Idx → Elt F .f32) shapeCasts_S32000x128_S4096x200x5 : S4096x200x5.Idx → Elt F .f32)

/-! ## Shares and rows, by core and by tile -/

abbrev coreShare (c : Fin 2) : PosShare TreeShare := pieceOf fullShare 2 (by decide) c
abbrev tileShare (c : Fin 2) (s : Fin 16) : PosShare TreeShare := pieceOf (coreShare c) 16 (by decide) s

def tileAt (c : Fin 2) (s : Fin 16) : grid0.Coords :=
  fun | 0 => c | 1 => s | ⟨_ + 2, h⟩ => absurd h (Nat.not_lt.2 (Nat.le_add_left _ _))

def coreRows (c : Fin 2) : Finset S32000x128.Idx := Finset.univ.filter fun y => (y 0).val / 1000 % 2 = c.val

theorem rows_lt (y : S32000x128.Idx) : (y 0).val < 32000 := (y 0).isLt

theorem mem_coreRows {c : Fin 2} {y : S32000x128.Idx} : y ∈ coreRows c ↔ (y 0).val / 1000 % 2 = c.val := by
  unfold coreRows; rw [Finset.mem_filter]; exact and_iff_right (Finset.mem_univ _)

theorem mem_tileAt {c : Fin 2} {s : Fin 16} {y : S32000x128.Idx} : y ∈ tileRows (tileAt c s) ↔ (y 0).val / 1000 = 2 * s.val + c.val := by
  rw [mem_tileRows]; exact Iff.rfl

theorem cores_disjoint : ∀ c ∈ (Finset.univ : Finset (Fin 2)), ∀ c' ∈ (Finset.univ : Finset (Fin 2)), c ≠ c' → Disjoint (coreRows c) (coreRows c') := by
  intro c _ c' _ h
  rw [Finset.disjoint_left]
  intro y hy hy'
  rw [mem_coreRows] at hy hy'
  exact h (Fin.ext (hy.symm.trans hy'))

theorem cores_cover : (Finset.univ : Finset (Fin 2)).biUnion coreRows = Finset.univ := by
  ext y
  simp only [Finset.mem_biUnion, Finset.mem_univ, iff_true]
  exact ⟨⟨(y 0).val / 1000 % 2, Nat.mod_lt _ (by decide)⟩, trivial, mem_coreRows.2 rfl⟩

theorem tiles_disjoint (c : Fin 2) : ∀ s ∈ (Finset.univ : Finset (Fin 16)), ∀ s' ∈ (Finset.univ : Finset (Fin 16)), s ≠ s' →
    Disjoint (tileRows (tileAt c s)) (tileRows (tileAt c s')) := by
  intro s _ s' _ h
  rw [Finset.disjoint_left]
  intro y hy hy'
  rw [mem_tileAt] at hy hy'
  exact h (Fin.ext (by omega))

theorem tiles_cover (c : Fin 2) : (Finset.univ : Finset (Fin 16)).biUnion (fun s => tileRows (tileAt c s)) = coreRows c := by
  ext y
  have hy := rows_lt y
  have hc := c.isLt
  simp only [Finset.mem_biUnion, Finset.mem_univ, mem_tileAt, mem_coreRows]
  constructor
  · rintro ⟨s, -, h⟩; omega
  · intro h; exact ⟨⟨(y 0).val / 1000 / 2, by omega⟩, trivial, by show _ = 2 * ((y 0).val / 1000 / 2) + _; omega⟩

theorem rows_cores (d : Dev nD) (f : Buf (Elt F) (oLoc d)) :
    (oLoc d ↦{fullShare} f : sProp 𝕄) = bigSep Finset.univ fun c : Fin 2 => oLoc d ↦[coreRows c]{fullShare} f := by
  rw [← pointsTo_biUnion Finset.univ (ℓ := oLoc d) coreRows cores_disjoint, cores_cover]; try rfl

theorem rows_tiles (d : Dev nD) (c : Fin 2) (f : Buf (Elt F) (oLoc d)) :
    (oLoc d ↦[coreRows c]{fullShare} f : sProp 𝕄) = bigSep Finset.univ fun s : Fin 16 => oLoc d ↦[tileRows (tileAt c s)]{fullShare} f := by
  rw [← pointsTo_biUnion Finset.univ (ℓ := oLoc d) (fun s : Fin 16 => tileRows (tileAt c s)) (tiles_disjoint c), tiles_cover]

/-! ## What the handshakes carry -/

abbrev coreHas (d : Dev nD) (c : Fin 2) (f : Buf (Elt F) (oLoc d)) : sProp 𝕄 :=
  iprop((xLoc d ↦{coreShare c} flat m d) ∗ oLoc d ↦[coreRows c]{fullShare} f)
abbrev tileHas (d : Dev nD) (c : Fin 2) (s : Fin 16) (f : Buf (Elt F) (oLoc d)) : sProp 𝕄 :=
  iprop((xLoc d ↦{tileShare c s} flat m d) ∗ oLoc d ↦[tileRows (tileAt c s)]{fullShare} f)

def P : (K (F := F)).Pay (nD := nD) (Val := Elt F) (Name := ℕ) (U := UU) where
  st := fun q d c => match q with | 0 => coreHas m d (Fin.cast nCore_zero c) (m (oLoc d))
  dn := fun q d c => match q with | 0 => coreHas m d (Fin.cast nCore_zero c) (gathered m d)
  go := fun q d c s => match q with | 0 => tileHas m d (Fin.cast nCore_zero c) (Fin.cast nSub_zero s) (m (oLoc d))
  td := fun q d c s => match q with | 0 => tileHas m d (Fin.cast nCore_zero c) (Fin.cast nSub_zero s) (gathered m d)
  x := fun _ _ => iprop(emp)

instance P_storable : (P (F := F) m).IsStorable where
  st q d c := match q with
    | 0 => (inferInstance : BI.Storable (upEmb : UEmb _ 𝕄) (coreHas m d (Fin.cast nCore_zero c) (m (oLoc d))))
  dn q d c := match q with
    | 0 => (inferInstance : BI.Storable (upEmb : UEmb _ 𝕄) (coreHas m d (Fin.cast nCore_zero c) (gathered m d)))
  go q d c s := match q with
    | 0 => (inferInstance : BI.Storable (upEmb : UEmb _ 𝕄) (tileHas m d (Fin.cast nCore_zero c) (Fin.cast nSub_zero s) (m (oLoc d))))
  td q d c s := match q with
    | 0 => (inferInstance : BI.Storable (upEmb : UEmb _ 𝕄) (tileHas m d (Fin.cast nCore_zero c) (Fin.cast nSub_zero s) (gathered m d)))

/-- A core's pieces are its tiles'. -/
theorem core_tiles (d : Dev nD) (c : Fin 2) (f : Buf (Elt F) (oLoc d)) :
    coreHas m d c f = bigSep Finset.univ fun s : Fin ((K (F := F)).nSub 0) => tileHas m d c (Fin.cast nSub_zero s) f := by
  unfold coreHas
  rw [pointsTo_piecesOf Finset.univ (flat m d) (o := 16) (by decide) (coreShare c), rows_tiles]
  exact (bigSep_sep' ..).symm

/-- The two arrays whole are the cores' pieces. -/
theorem whole_cores (d : Dev nD) (f : Buf (Elt F) (oLoc d)) :
    (bigSep Finset.univ fun c : Fin ((K (F := F)).nCore 0) => coreHas m d (Fin.cast nCore_zero c) f)
      = iprop((xLoc d ↦{fullShare} flat m d) ∗ oLoc d ↦{fullShare} f) := by
  rw [pointsTo_piecesOf Finset.univ (flat m d) (o := 2) (by decide) fullShare, rows_cores]
  exact bigSep_sep' ..

theorem vecSplit : (K (F := F)).VecSplit' (P m) 0 := by
  intro d c
  show coreHas m d (Fin.cast nCore_zero c) (m (oLoc d)) ⊢ |={Set.univ}=> iprop(
      (bigSep Finset.univ fun s : Fin ((K (F := F)).nSub 0) => tileHas m d (Fin.cast nCore_zero c) (Fin.cast nSub_zero s) (m (oLoc d)))
      ∗ ((bigSep Finset.univ fun s : Fin ((K (F := F)).nSub 0) => tileHas m d (Fin.cast nCore_zero c) (Fin.cast nSub_zero s) (gathered m d))
          -∗ coreHas m d (Fin.cast nCore_zero c) (gathered m d)))
  rw [core_tiles, core_tiles]
  iintro H; imodintro
  isplitl [H]; · iexact H
  iintro H; iexact H

/-! ## A tile's task -/

section Tile

variable [FloatOps F] (d : Dev nD) (L : grid0.Coords)

abbrev cV : Fin τ.nSC := (L 0).castLE hcore0
abbrev sV : Fin τ.nSub := (L 1).castLE hsub0
abbrev cell (q : DmaSems sig S_) : GSem nD τ sig := (V d (cV L) (sV L), .dma q.sem)

omit [FloatOps F] in
/-- The four cells the task uses, out of the subcore's own. -/
theorem ownSems0_V :
    (ownSems0 (V d (cV L) (sV L)) : sProp 𝕄)
      = iprop(semVal (cell d L cc0_scratch3) 0 ∗ semVal (cell d L cc0_scratch4) 0 ∗ semVal (cell d L cc0_scoped0) 0 ∗ semVal (cell d L cc0_scoped1) 0
          ∗ bigSep (((((ownCells (V d (cV L) (sV L))).erase (cell d L cc0_scratch3)).erase (cell d L cc0_scratch4)).erase (cell d L cc0_scoped0)).erase (cell d L cc0_scoped1))
              fun g => semVal g 0) := by
  have own (q : DmaSems sig S_) (h : (SemLoc.dma q.sem : SemLoc sig).isScoped .scVector = true) : cell d L q ∈ ownCells (V d (cV L) (sV L)) :=
    (mem_ownCells (g := cell d L q)).mpr ⟨rfl, h⟩
  have ne (q q' : DmaSems sig S_) (h : (SemLoc.dma q.sem : SemLoc sig) ≠ .dma q'.sem) : cell d L q ≠ cell d L q' := fun e => h (congrArg Prod.snd e)
  unfold SparseCore.Cfg.ownSems0
  rw [SparseCore.bigSep_erase' (own cc0_scratch3 (by decide)),
    SparseCore.bigSep_erase' (Finset.mem_erase.mpr ⟨ne _ _ (by decide), own cc0_scratch4 (by decide)⟩),
    SparseCore.bigSep_erase' (Finset.mem_erase.mpr ⟨ne _ _ (by decide), Finset.mem_erase.mpr ⟨ne _ _ (by decide), own cc0_scoped0 (by decide)⟩⟩),
    SparseCore.bigSep_erase' (Finset.mem_erase.mpr ⟨ne _ _ (by decide), Finset.mem_erase.mpr ⟨ne _ _ (by decide),
      Finset.mem_erase.mpr ⟨ne _ _ (by decide), own cc0_scoped1 (by decide)⟩⟩⟩)]

omit [FloatOps F] in
/-- The list's and the two chunks' buffers, out of the subcore's own. -/
theorem ownBufs_V :
    (ownBufs (V d (cV L) (sV L)) : sProp 𝕄)
      = iprop((∃ f, (V d (cV L) (sV L)).loc cc0_scratch0 ↦{fullShare} f) ∗ (∃ f, (V d (cV L) (sV L)).loc cc0_scratch1 ↦{fullShare} f)
          ∗ (∃ f, (V d (cV L) (sV L)).loc cc0_scratch2 ↦{fullShare} f)
          ∗ bigSep ((((ownRefs (τ := τ) (.scVector (cV L) (sV L))).erase ((Proc.scVector (cV L) (sV L)).devRef cc0_scratch0)).erase
              ((Proc.scVector (cV L) (sV L)).devRef cc0_scratch1)).erase ((Proc.scVector (cV L) (sV L)).devRef cc0_scratch2))
              fun b => iprop(∃ f, ((d, b) : Loc nD τ sig) ↦{fullShare} f)) := by
  have own (b : Ref sig .scVector) (h : ((Proc.scVector (cV L) (sV L)).devRef b : DevRef τ sig).owner = .proc (.scVector (cV L) (sV L))) :
      (Proc.scVector (cV L) (sV L)).devRef b ∈ ownRefs (τ := τ) (.scVector (cV L) (sV L)) :=
    SparseCore.Cfg.mem_ownRefs_of_owner (p := Proc.scVector (cV L) (sV L)) (b := (Proc.scVector (cV L) (sV L)).devRef b) h
  have ne (b b' : Ref sig .scVector) (h : b ≠ b') : (Proc.scVector (cV L) (sV L)).devRef b ≠ ((Proc.scVector (cV L) (sV L)).devRef b' : DevRef τ sig) :=
    fun e => h (Proc.devRef_injective _ e)
  unfold SparseCore.Cfg.ownBufs
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide),
      Finset.mem_erase.mpr ⟨ne cc0_scratch2 cc0_scratch0 (by decide), own cc0_scratch2 rfl⟩⟩)]

/-- A tile's rows with all fifty chunks there are the gathered words. -/
theorem result_gathered (d : Dev nD) :
    (result d L (flat m d) 50 : sProp 𝕄) ⊢ iprop(oLoc d ↦[tileRows L]{fullShare} gathered m d) := by
  unfold result
  iintro ⟨%g, %hg, H⟩
  ihave H' := (Entails.of_eq (pointsTo_congr (ℓ := oLoc d) (I := tileRows L) (q := fullShare) (f := g) (g := gathered m d) fun y hy => by
    have h := hg y hy (by have := (mem_tileRows L y).1 hy; omega)
    exact h)) $$ H
  iexact H'

theorem tile_body (hF : (K (F := F)).Facts) (O : CellTallies nD τ sig (HIx 1)) (W : Waits sig (HIx 1)) (hO : ∀ g, O g none = 0) (q : PosShare TreeShare) :
    iprop(levAts (K (F := F)).L (K (F := F)).lev ∗ emp
        ∗ (iprop((xLoc d ↦{q} flat m d) ∗ oLoc d ↦[tileRows L]{fullShare} m (oLoc d)) : sProp 𝕄)
        ∗ scopedBufs (V d (cV L) (sV L)) ∗ scopedSems0 (V d (cV L) (sV L)) ∗ owes (V d (cV L) (sV L)) O W)
      ⊢ wp frame (wpE (defs₀ (F := F)) 𝒱₀ (V d (cV L) (sV L)) none) Set.univ
          (cc0__sc_body (F := F) L xM (Memref.isWhole_whole _) oM (Memref.isWhole_whole _) idxM (Memref.isWhole_whole _)
            aM (Memref.isWhole_whole _) bM (Memref.isWhole_whole _) cc0_scratch3 cc0_scratch4 cc0_scoped0 cc0_scoped1)
          fun _ => iprop(((xLoc d ↦{q} flat m d) ∗ oLoc d ↦[tileRows L]{fullShare} gathered m d)
            ∗ scopedBufs (V d (cV L) (sV L)) ∗ scopedSems0 (V d (cV L) (sV L))
            ∗ ∃ W', ⌜∀ p ∈ W', p ∈ W ∨ p.2 = none⌝ ∗ owes (V d (cV L) (sV L)) O W') := by
  rw [(K (F := F)).scopedBufs_V hF d (cV L) (sV L), SparseCore.Cfg.scopedSems0_V (Val := Elt F) d (cV L) (sV L), ownSems0_V, ownBufs_V]
  have hi : idxM.view.set = Finset.univ := View.set_whole _
  have ha : aM.view.set = Finset.univ := View.set_whole _
  have hb : bM.view.set = Finset.univ := View.set_whole _
  iintro ⟨#Hlv, -, ⟨Hx, Ho⟩, ⟨⟨%fi, Hi⟩, ⟨%fa, Ha⟩, ⟨%fb, Hb⟩, Hbufs⟩, ⟨Hv3, Hv4, Hr0, Hr1, Hsems⟩, HO⟩
  ihave Hmw := (show levAts (K (F := F)).L (K (F := F)).lev ⊢ Transfers.MayWaits (V d (cV L) (sV L)) (default : HIx 1) O from
    (K (F := F)).mayWaits_none (thr := V d (cV L) (sV L)) hO) $$ Hlv
  have ht := wp_tile (F := F) d L (flat m d) (defs := defs₀ (F := F)) 𝒱₀ none (O := O) (W := W) q (Memref.isWhole_whole _) (Memref.isWhole_whole _) (Memref.isWhole_whole _)
    (Memref.isWhole_whole _) (Memref.isWhole_whole _) fi fa fb (m (oLoc d))
  rw [hi, ha, hb] at ht
  iapply (wp_wand_r Idealize.ShloMosaic.frame (wpE (defs₀ (F := F)) 𝒱₀ (V d (cV L) (sV L)) none) Set.univ)
  isplitl [Hi Ha Hb Hx Ho Hv3 Hv4 Hr0 Hr1 HO]
  · iapply ht
    isplitr; · iexact Hmw
    isplitl [Hi]; · iexact Hi
    isplitl [Ha]; · iexact Ha
    isplitl [Hb]; · iexact Hb
    isplitl [Hx]; · iexact Hx
    isplitl [Ho]; · iexact Ho
    isplitl [Hv3]; · iexact Hv3
    isplitl [Hv4]; · iexact Hv4
    isplitl [Hr0]; · iexact Hr0
    isplitl [Hr1]; · iexact Hr1
    iexact HO
  iintro %_ ⟨Hi, Ha, Hb, Hx, Ho, Hv3, Hv4, Hr0, Hr1, HO⟩
  ihave Ho' := (result_gathered m L d) $$ Ho
  isplitl [Hx Ho']
  · isplitl [Hx]; · iexact Hx
    iexact Ho'
  isplitl [Hi Ha Hb Hbufs]
  · isplitl [Hi]; · iexact Hi
    isplitl [Ha]; · iexact Ha
    isplitl [Hb]; · iexact Hb
    iexact Hbufs
  isplitl [Hv3 Hv4 Hr0 Hr1 Hsems]
  · isplitl [Hv3]; · iexact Hv3
    isplitl [Hv4]; · iexact Hv4
    isplitl [Hr0]; · iexact Hr0
    isplitl [Hr1]; · iexact Hr1
    iexact Hsems
  unfold waited
  iexact HO

theorem defs₀_vector (c : Fin τ.nSC) (s : Fin τ.nSub) :
    defs₀ (F := F) (.scVector c s) 0 ()
      = SparseCore.onTile hcore0 hsub0 (fun c s => cc0__sc_body (tileAt c s)
          xM (Memref.isWhole_whole _) oM (Memref.isWhole_whole _) idxM (Memref.isWhole_whole _)
          aM (Memref.isWhole_whole _) bM (Memref.isWhole_whole _) cc0_scratch3 cc0_scratch4 cc0_scoped0 cc0_scoped1) ⟨⟩ c s := rfl

omit [FloatOps F] in
theorem obl_post {thr : Thread nD τ} {A B C : sProp (MT nD τ sig (HIx 1) (Elt F) ℕ UU ℕ)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (tileAt ⟨_, hci.1⟩ ⟨_, hci.2⟩) hF O W hO (tileShare (Fin.cast nCore_zero c) (Fin.cast nSub_zero i))).trans
    (wp_mono frame _ _ fun _ => obl_post)

end Tile

/-! ## The ghost state at the launch -/

def u₀ : UU := (initOf (K (F := F)).hsCells (K (F := F)).hsToks, 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The TensorCore's program -/

abbrev a' : DevRef τ sig := Proc.devRef .tc main_arg0
abbrev x' : DevRef τ sig := Proc.devRef .tc main_v0
abbrev o' : DevRef τ sig := Proc.devRef .tc main_v1
abbrev r' : DevRef τ sig := Proc.devRef .tc main_v2

abbrev opIn : HloOp τ sig (Elt F) := StableHlo.reshape main_arg0 main_v0 (rfl : (.f32 : EltTy) = .f32) shapeCasts_S4096x200x128_S104857600
abbrev opOut : HloOp τ sig (Elt F) := StableHlo.reshape main_v1 main_v2 (rfl : (.f32 : EltTy) = .f32) shapeCasts_S32000x128_S4096x200x5

abbrev arrays : Finset (DevRef τ sig) := {a', x', o', r'}

theorem held_arrays (d : Dev nD) (W : Valuation τ sig (Elt F)) :
    (held (T d) arrays W : sProp 𝕄)
      = iprop((aLoc d ↦{fullShare} W a') ∗ (xLoc d ↦{fullShare} W x') ∗ (oLoc d ↦{fullShare} W o') ∗ rLoc d ↦{fullShare} W r') := by
  unfold held arrays
  rw [SparseCore.bigSep_insert' (by decide), SparseCore.bigSep_insert' (by decide), SparseCore.bigSep_insert' (by decide), bigSep_singleton]

/-- The arrays at the launch, and after the call. -/
def V0 (d : Dev nD) : Valuation τ sig (Elt F) := fun b => m (d, b)
def V2 (d : Dev nD) : Valuation τ sig (Elt F) := Function.update ((opIn (F := F)).result (V0 m d)) o' (gathered m d)

theorem unscoped_held (d : Dev nD) : (unscopedBufs d (fun b => m ((SparseCore.T d).loc b)) : sProp 𝕄) = held (T d) arrays (V0 m d) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton, held_arrays]
  rfl

theorem in_x (d : Dev nD) : (opIn (F := F)).result (V0 m d) x' = flat m d := StableHlo.reshape_result ..
theorem in_a (d : Dev nD) : (opIn (F := F)).result (V0 m d) a' = m (aLoc d) :=
  (opIn (F := F)).result_of_not_mem _ (show a' ∉ ({x'} : Finset (DevRef τ sig)) by decide)
theorem in_o (d : Dev nD) : (opIn (F := F)).result (V0 m d) o' = m (oLoc d) :=
  (opIn (F := F)).result_of_not_mem _ (show o' ∉ ({x'} : Finset (DevRef τ sig)) by decide)

theorem V2_o (d : Dev nD) : V2 m d o' = gathered m d := Function.update_self ..
theorem V2_ne (d : Dev nD) {b : DevRef τ sig} (h : b ≠ o') : V2 m d b = (opIn (F := F)).result (V0 m d) b := Function.update_of_ne h ..

theorem out_r (d : Dev nD) : (opOut (F := F)).result (V2 m d) r' = picked m d :=
  (StableHlo.reshape_result ..).trans (by rw [V2_o]; rfl)
theorem out_a (d : Dev nD) : (opOut (F := F)).result (V2 m d) a' = m (aLoc d) :=
  ((opOut (F := F)).result_of_not_mem _ (show a' ∉ ({r'} : Finset (DevRef τ sig)) by decide)).trans ((V2_ne m d (by decide)).trans (in_a m d))

theorem hIn : (opIn (F := F)).bufs ⊆ arrays := show ({a', x'} : Finset (DevRef τ sig)) ⊆ arrays by decide
theorem hOut : (opOut (F := F)).bufs ⊆ arrays := show ({o', r'} : Finset (DevRef τ sig)) ⊆ arrays by decide

abbrev FIN (d : Dev nD) : sProp 𝕄 := iprop((aLoc d ↦{fullShare} m (aLoc d)) ∗ rLoc d ↦{fullShare} picked m d)

variable [FloatOps F]

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := arrays) hIn (V := V0 m d)) $$ [Hb Hheld]
  · isplitl [Hb] <;> iassumption
  iintro ⟨Hb, Hheld⟩
  rw [wp_ret]; imodintro
  ihave Hh := (Entails.of_eq (held_arrays (F := F) d _)) $$ Hheld
  rw [in_x, in_o]
  icases Hh with ⟨Ha, Hx, Ho, Hr⟩
  iapply ((K (F := F)).wp_run (D (F := F)) 𝒱 (EH := EH) (P := P m) κ d 0) $$ [Hst Hx Ho Hb Ha Hr Hts]
  isplitr; · iexact Hctx
  isplitl [Hst]; · iexact Hst
  isplitl [Hx Ho]
  · iapply (Entails.of_eq (whole_cores m d (m (oLoc d))).symm)
    isplitl [Hx]; · iexact Hx
    iexact Ho
  iintro ⟨Hst, Hdn⟩
  ihave Hdn' := (show (bigSep Finset.univ fun c : Fin ((K (F := F)).nCore 0) => (P m).dn 0 d c)
    ⊢ iprop((xLoc d ↦{fullShare} flat m d) ∗ oLoc d ↦{fullShare} gathered m d) from Entails.of_eq (whole_cores m d (gathered m d))) $$ Hdn
  icases Hdn' with ⟨Hx, Ho⟩
  iapply (wp_hlo_within 𝒱 (SparseCore.T d) none Set.univ (op := opOut) (S := arrays) hOut (V := V2 m d)) $$ [Hb Ha Hx Ho Hr]
  · isplitl [Hb]; · iexact Hb
    rw [held_arrays, V2_o, V2_ne m d (b := a') (by decide), V2_ne m d (b := x') (by decide), V2_ne m d (b := r') (by decide), in_x]
    isplitl [Ha]; · iexact Ha
    isplitl [Hx]; · iexact Hx
    isplitl [Ho]; · iexact Ho
    iexact Hr
  iintro ⟨Hb, Hheld⟩
  ihave Hh := (Entails.of_eq (held_arrays (F := F) d _)) $$ Hheld
  rw [out_a, out_r]
  icases Hh with ⟨Ha, -, -, Hr⟩
  rw [wp_ret]; imodintro; imodintro
  isplitl [Hst]; · iexact Hst
  isplitr [Hb Hts]
  · isplitl [Ha]; · iexact Ha
    iexact Hr
  isplitl [Hb] <;> iassumption

/-- What a device's final state shows: the result, and the argument as it was. -/
def fq (d : Dev nD) (s' : Phys nD τ sig (Elt F)) : Prop := s'.mem.mem (rLoc d) = picked m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := picked m d)) $$ [HSI Hr]
  · isplitl [HSI] <;> iassumption
  icases H with %hr
  ipureintro; exact ⟨funext fun i => hr i (Finset.mem_univ i), funext fun i => ha i (Finset.mem_univ i)⟩

def QC : PUnit × MemSt nD τ sig (Elt F) → Prop := fun r => (∀ c : Dev nD, r.2.mem (rLoc c) = picked m c ∧ r.2.mem (aLoc c) = m (aLoc c)) ∧ r.2.sem = fun _ => 0

/-- From any memory with zero counters, every execution ends with the result at the picked words, the argument unchanged
    and the counters at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.Ref.lean ====
/-
  The reference, read at an index: its indices are in range and none is negative, so the wrapped indices are the listed
  lanes, the range mask is all ones, and element (a, b, m) of the result is element (a, b, lane m) of the input.
-/
module

public import proofs.«01_k».proof.Proof.Gen.ReferenceIdeal.Run
public import proofs.«01_k».proof.Proof.Index
public import Idealize.ShloMosaic.Lib.Pointwise

@[expose] public section

set_option maxRecDepth 16384

noncomputable section

namespace Cert.Proof.Ref

open Cert.ReferenceIdeal Cert.ReferenceIdeal.Gen
open Cert.Proof.Index (lane5 lane5_lt)
open Idealize.ShloMosaic Idealize.ShloMosaic.TcCoe Idealize.SL.Sem

/-- The indices after the wrap of negative ones. -/
def lanes : IVec S5 32 :=
  select (cmpi .slt (fun i => lit0 (S5.rowMajor i)) (broadcastInDim S5 ![] bcast_S_S5 (constantI S_ 32 0#32)))
    (addi (fun i => lit0 (S5.rowMajor i)) (broadcastInDim S5 ![] bcast_S_S5 (constantI S_ 32 128#32))) (fun i => lit0 (S5.rowMajor i))

/-- The indices as a column. -/
def column : IVec S5x1 32 := broadcastInDim S5x1 ![0] bcast_S5_S5x1_0 lanes

/-- Which indices are in range. -/
def inRange : IVec S5 1 :=
  Host.reduce IntOp.andi (andi (cmpi .sge column (broadcastInDim S5x1 ![] bcast_S_S5x1 (constantI S_ 32 0#32)))
    (cmpi .sle column (broadcastInDim S5x1 ![0, 1] bcast_S1x1_S5x1_0_1 (broadcastInDim S1x1 ![1] bcast_S1_S1x1_1 (constantI S1 32 127#32)))))
    (constantI S_ 1 1#1) reducesTo_S5x1_S5_d1 h_S_

theorem lanes_apply (b : Fin 5) : lanes (ix1 b) = BitVec.ofNat 32 (lane5 b.val) := by
  revert b; decide +kernel

theorem column_apply (b : Fin 5) (z : Fin 1) : column (ix2 b z) = BitVec.ofNat 32 (lane5 b.val) := by
  rw [← lanes_apply]
  pointwise [column]

theorem inRange_apply (b : Fin 5) : inRange (ix1 b) = 1#1 := by
  revert b; decide +kernel

variable {F : FTy → Type} [FloatOps F]

/-- The gather read at an index: the lane its start index names, clamped. -/
theorem gather_apply {α : Type} (x : S4096x200x128.Idx → α) (idx : IVec S5x1 32) (a : Fin 4096) (b : Fin 200) (k : Fin 5) :
    Host.gather gather_S4096x200x128_S5x1_S4096x200x5_01_2_n_n_2_1_40962001 x idx (ix3 a b k)
      = x (ix3 a b (⟨min (idx (ix2 k (0 : Fin 1))).toInt.toNat 127, by omega⟩ : Fin 128)) := by
  unfold Host.gather
  congr 1
  funext c
  refine Fin.ext ?_
  generalize hD : gather_S4096x200x128_S5x1_S4096x200x5_01_2_n_n_2_1_40962001 = D
  show D.start (ix3 a b k) idx c + D.batchCoord (ix3 a b k) c + D.offCoord (ix3 a b k) c = _
  subst hD
  rw [GatherDims.batchCoord_eq_zero _ _ _ List.not_mem_nil, Nat.add_zero]
  match c with
  | 0 =>
    unfold GatherDims.start GatherDims.offCoord
    rw [dif_neg (show (0 : Fin 3) ∉ gather_S4096x200x128_S5x1_S4096x200x5_01_2_n_n_2_1_40962001.startIndexMap from (by decide : (0 : Fin 3) ∉ ([2] : List (Fin 3)))), Nat.zero_add, dif_pos (show (0 : Fin 3) ∈ gather_S4096x200x128_S5x1_S4096x200x5_01_2_n_n_2_1_40962001.sKept from (GatherDims.mem_sKept _ _).mpr ⟨(by decide : (0 : Fin 3) ∉ ([2] : List (Fin 3))), List.not_mem_nil⟩)]
    rfl
  | 1 =>
    unfold GatherDims.start GatherDims.offCoord
    rw [dif_neg (show (1 : Fin 3) ∉ gather_S4096x200x128_S5x1_S4096x200x5_01_2_n_n_2_1_40962001.startIndexMap from (by decide : (1 : Fin 3) ∉ ([2] : List (Fin 3)))), Nat.zero_add, dif_pos (show (1 : Fin 3) ∈ gather_S4096x200x128_S5x1_S4096x200x5_01_2_n_n_2_1_40962001.sKept from (GatherDims.mem_sKept _ _).mpr ⟨(by decide : (1 : Fin 3) ∉ ([2] : List (Fin 3))), List.not_mem_nil⟩)]
    rfl
  | 2 =>
    rw [GatherDims.offCoord_eq_zero _ _ _ (fun h => ((GatherDims.mem_sKept _ _).mp h).1 (List.mem_singleton.mpr rfl)), Nat.add_zero]
    unfold GatherDims.start
    rw [dif_pos (show (2 : Fin 3) ∈ gather_S4096x200x128_S5x1_S4096x200x5_01_2_n_n_2_1_40962001.startIndexMap from List.mem_singleton.mpr rfl)]
    refine congrArg (fun z => min (idx z).toInt.toNat 127) (funext fun e => Fin.ext ?_)
    match e with
    | 0 => rfl
    | 1 => rfl

/-- The reference's result, read at an index. -/
def taken (x : S4096x200x128.Idx → Elt F .f32) : S4096x200x5.Idx → Elt F .f32 :=
  select (broadcastInDim S4096x200x5 ![2] bcast_S5_S4096x200x5_2 inRange)
    (Host.gather gather_S4096x200x128_S5x1_S4096x200x5_01_2_n_n_2_1_40962001 x column)
    (broadcastInDim S4096x200x5 ![] bcast_S_S4096x200x5 (constant S_ .f32 0x7FC00000#32))

theorem lane_toNat (k : Fin 5) : min (BitVec.ofNat 32 (lane5 k.val)).toInt.toNat 127 = lane5 k.val := by
  revert k; decide +kernel

theorem taken_apply (x : S4096x200x128.Idx → Elt F .f32) (a : Fin 4096) (b : Fin 200) (k : Fin 5) :
    taken x (ix3 a b k) = x (ix3 a b (⟨lane5 k.val, lane5_lt _⟩ : Fin 128)) := by
  unfold taken select
  rw [show broadcastInDim S4096x200x5 ![2] bcast_S5_S4096x200x5_2 inRange (ix3 a b k) = inRange (ix1 k) by pointwise, inRange_apply, gather_apply]
  refine (if_pos rfl).trans (congrArg (fun z : Fin 128 => x (ix3 a b z)) (Fin.ext ?_))
  show min (column (ix2 k 0)).toInt.toNat 127 = lane5 k.val
  rw [column_apply, lane_toNat]

end Cert.Proof.Ref

end
-- ==== Proof.Value.lean ====
/-
  The two programs' results are one function of the argument.
-/
module

public import proofs.«01_k».proof.Proof.Launch
public import proofs.«01_k».proof.Proof.Gen.Kernel
public import proofs.«01_k».proof.Defs
public import proofs.«01_k».proof.Proof.Ref
public import Idealize.ShloMosaic.Lib.Pipeline.Value

@[expose] public section

noncomputable section

namespace Cert.Proof.Value

open Cert.KernelIdeal Cert.KernelIdeal.Gen
open Cert.Proof.Index (lane5 lane5_lt entry)
open Cert.Proof.Slot (want word1)
open Cert.Proof.Launch (aLoc picked gathered flat)
open Idealize.ShloMosaic Idealize.ShloMosaic.TcCoe Idealize.SL.Sem

variable {F : FTy → Type} [FloatOps F]
variable (m : (ℓ : Loc nD τ sig) → Buf (Elt F) ℓ)

/-- Element (a, b, k) of the kernel's result is element (a, b, lane k) of the argument: its flat place is
    `(a * 200 + b) * 5 + k`, and the list's entry there is the flat place of that element. -/
theorem picked_apply (d : Dev nD) (a : Fin 4096) (b : Fin 200) (k : Fin 5) :
    (picked m d : S4096x200x5.Idx → Elt F .f32) (ix3 a b k)
      = (m (aLoc d) : S4096x200x128.Idx → Elt F .f32) (ix3 a b (⟨lane5 k.val, lane5_lt _⟩ : Fin 128)) := by
  have ha := a.isLt
  have hb := b.isLt
  have hk := k.isLt
  have hl := lane5_lt k.val
  have hp : (a.val * 200 + b.val) * 5 + k.val < 32000 * 128 := by omega
  unfold picked
  rw [shapeCast_apply (s := S32000x128) (t := S4096x200x5) (gathered m d : S32000x128.Idx → Elt F .f32) _ _
    (ix2 (⟨((a.val * 200 + b.val) * 5 + k.val) / 128, by omega⟩ : Fin 32000) (⟨((a.val * 200 + b.val) * 5 + k.val) % 128, by omega⟩ : Fin 128))]
  · unfold gathered want flat
    rw [shapeCast_apply (s := S4096x200x128) (t := S104857600) (m (aLoc d) : S4096x200x128.Idx → Elt F .f32) _ _ (ix3 a b (⟨lane5 k.val, lane5_lt _⟩ : Fin 128))]
    rw [Shape.rowMajor_val_one, Shape.rowMajor_val_three]
    show (a.val * 200 + b.val) * 128 + lane5 k.val
      = entry (((a.val * 200 + b.val) * 5 + k.val) / 128 * 128 + ((a.val * 200 + b.val) * 5 + k.val) % 128) % 104857600
    rw [Nat.div_add_mod']
    unfold entry
    rw [show ((a.val * 200 + b.val) * 5 + k.val) % 5 = k.val by omega]
    omega
  · rw [Shape.rowMajor_val_two, Shape.rowMajor_val_three]
    show ((a.val * 200 + b.val) * 5 + k.val) / 128 * 128 + ((a.val * 200 + b.val) * 5 + k.val) % 128 = (a.val * 200 + b.val) * 5 + k.val
    exact Nat.div_add_mod' _ _

theorem picked_eq_taken (d : Dev nD) :
    (picked m d : S4096x200x5.Idx → Elt F .f32) = Ref.taken (F := F) (m (aLoc d) : S4096x200x128.Idx → Elt F .f32) := by
  funext y
  rw [eq_ix3 (n0 := 4096) (n1 := 200) (n2 := 5) y]
  exact (picked_apply m d _ _ _).trans (Ref.taken_apply _ _ _ _).symm

/-! ## The claims -/

theorem frame_kernel : Cert.quiescent_Kernel := fun m ρ _ =>
  (θ_run Cert.KernelIdeal.defs _ _).mono (fun _ h => ⟨fun c => (h.1 c).2, h.2⟩) (Launch.run_main (F := Bits) m ρ)

theorem frame_ideal : Cert.quiescent_KernelIdeal := fun m ρ _ =>
  (θ_run Cert.KernelIdeal.defs _ _).mono (fun _ h => ⟨fun c => (h.1 c).2, h.2⟩) (Launch.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem algebraic : Cert.algebraic_KernelIdeal_ReferenceIdeal := fun m g m' g' _ hm =>
  ⟨fun c => picked m c,
    (θ_run Cert.KernelIdeal.defs _ _).mono (fun _ h c => h.1 c) (Launch.run_main (F := Ideal) m g),
    (θ_run Cert.ReferenceIdeal.defs _ _).mono (fun _ h c => ⟨(h c).1.trans (by rw [hm c]; exact (picked_eq_taken m c).symm), (h c).2⟩)
      (Cert.ReferenceIdeal.Value.run (F := Ideal) m' g')⟩

end Cert.Proof.Value

end
-- ==== Proof.lean ====
/-
  The five claims: the launch's run gives both of the kernel's frames, the reference's run gives its own, and the two
  results are one function of the argument.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Value.frame_kernel, Value.frame_ideal,
  Value.frame_reference, trivial, Value.algebraic⟩

end Cert.Proof

end
